-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S4x4096x256 : Shape := ⟨3, ![4, 4096, 256]⟩
abbrev S256x256 : Shape := ⟨2, ![256, 256]⟩
abbrev S128x1x3 : Shape := ⟨3, ![128, 1, 3]⟩
abbrev S48x128 : Shape := ⟨2, ![48, 128]⟩
abbrev S128x16 : Shape := ⟨2, ![128, 16]⟩
abbrev S128 : Shape := ⟨1, ![128]⟩
abbrev S_ : Shape := ⟨0, ![]⟩
abbrev S128x256 : Shape := ⟨2, ![128, 256]⟩
abbrev S16x128 : Shape := ⟨2, ![16, 128]⟩
abbrev S4x4096x128 : Shape := ⟨3, ![4, 4096, 128]⟩
abbrev S4x4098x128 : Shape := ⟨3, ![4, 4098, 128]⟩
abbrev S128x1x1 : Shape := ⟨3, ![128, 1, 1]⟩
abbrev S1x1x128 : Shape := ⟨3, ![1, 1, 128]⟩
abbrev S4x4096x16 : Shape := ⟨3, ![4, 4096, 16]⟩

class Facts : Prop where
  bcast_S_S4x4096x256 : S_.BroadcastsInDim S4x4096x256 (![] : Fin 0 → Fin S4x4096x256.rank)
  slices_S256x256_S128x256_0_0 : S256x256.Slices ![0, 0] S128x256
  bcast_S_S128x256 : S_.BroadcastsInDim S128x256 (![] : Fin 0 → Fin S128x256.rank)
  bcast_S_S128x1x3 : S_.BroadcastsInDim S128x1x3 (![] : Fin 0 → Fin S128x1x3.rank)
  slices_S48x128_S16x128_0_0 : S48x128.Slices ![0, 0] S16x128
  bcast_S_S16x128 : S_.BroadcastsInDim S16x128 (![] : Fin 0 → Fin S16x128.rank)
  bcast_S_S128x16 : S_.BroadcastsInDim S128x16 (![] : Fin 0 → Fin S128x16.rank)
  pads_S4x4096x128_S4x4098x128_000_110_000 : S4x4096x128.Pads (![0, 1, 0] : Fin 3 → Nat) ![0, 1, 0] ![0, 0, 0] S4x4098x128
  h_S_ : 0 < S_.numel
  slices_S128x1x3_S128x1x1_0_0_0 : S128x1x3.Slices ![0, 0, 0] S128x1x1
  shapeCasts_S128x1x1_S128 : S128x1x1.ShapeCasts S128
  slices_S4x4098x128_S4x4096x128_0_0_0 : S4x4098x128.Slices ![0, 0, 0] S4x4096x128
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  slices_S128x1x3_S128x1x1_0_0_1 : S128x1x3.Slices ![0, 0, 1] S128x1x1
  slices_S4x4098x128_S4x4096x128_0_1_0 : S4x4098x128.Slices ![0, 1, 0] S4x4096x128
  slices_S128x1x3_S128x1x1_0_0_2 : S128x1x3.Slices ![0, 0, 2] S128x1x1
  slices_S4x4098x128_S4x4096x128_0_2_0 : S4x4098x128.Slices ![0, 2, 0] S4x4096x128
  bcast_S_S4x4096x128 : S_.BroadcastsInDim S4x4096x128 (![] : Fin 0 → Fin S4x4096x128.rank)
  dot_S4x4096x256_S128x256_S4x4096x128_2_1_01_0_n_n_wf : DotDims.WF S4x4096x256 S128x256 S4x4096x128 [2] [1] [0, 1] [0] [] []
  dot_S4x4096x128_S16x128_S4x4096x16_2_1_01_0_n_n_wf : DotDims.WF S4x4096x128 S16x128 S4x4096x16 [2] [1] [0, 1] [0] [] []
  dot_S4x4096x16_S128x16_S4x4096x128_2_1_01_0_n_n_wf : DotDims.WF S4x4096x16 S128x16 S4x4096x128 [2] [1] [0, 1] [0] [] []

variable [Facts]

def dot_S4x4096x256_S128x256_S4x4096x128_2_1_01_0_n_n : DotDims S4x4096x256 S128x256 S4x4096x128 where
  lhsContracting := [2]
  rhsContracting := [1]
  lhsNonContracting := [0, 1]
  rhsNonContracting := [0]
  lhsBatch := []
  rhsBatch := []
  wf := dot_S4x4096x256_S128x256_S4x4096x128_2_1_01_0_n_n_wf
def dot_S4x4096x128_S16x128_S4x4096x16_2_1_01_0_n_n : DotDims S4x4096x128 S16x128 S4x4096x16 where
  lhsContracting := [2]
  rhsContracting := [1]
  lhsNonContracting := [0, 1]
  rhsNonContracting := [0]
  lhsBatch := []
  rhsBatch := []
  wf := dot_S4x4096x128_S16x128_S4x4096x16_2_1_01_0_n_n_wf
def dot_S4x4096x16_S128x16_S4x4096x128_2_1_01_0_n_n : DotDims S4x4096x16 S128x16 S4x4096x128 where
  lhsContracting := [2]
  rhsContracting := [1]
  lhsNonContracting := [0, 1]
  rhsNonContracting := [0]
  lhsBatch := []
  rhsBatch := []
  wf := dot_S4x4096x16_S128x16_S4x4096x128_2_1_01_0_n_n_wf
def fn_part4 {F : FTy → Type} [FloatOps F] (main_arg5 : FVec F S48x128 .f32) (main_arg6 : FVec F S128x16 .f32) (main_arg7 : FVec F S128 .f32) (main_v2 : IVec S4x4096x256 1) (main_v5 : IVec S4x4096x256 1) (main_v9 : IVec S128x256 1) (main_v12 : IVec S128x1x3 1) (main_v16 : IVec S16x128 1) (main_v19 : IVec S128x16 1) (main_v57 : IVec S4x4096x128 1) (main_v80 : FVec F S4x4096x128 .f32) (main_v82 : FVec F S4x4096x128 .f32) (main_v83 : FVec F S4x4096x128 .f32) : IVec S4x4096x256 1 × IVec S4x4096x256 1 × IVec S128x256 1 × IVec S128x1x3 1 × IVec S16x128 1 × IVec S128x16 1 × IVec S4x4096x128 1 × IVec S4x4096x128 1 :=
  let main_v84 : FVec F S4x4096x128 .f32 := addf main_v83 main_v82
  let main_cst_11 : FVec F S_ .f32 := constant S_ .f32 0x3F800000#32
  let main_v85 : FVec F S4x4096x128 .f32 := broadcastInDim S4x4096x128 ![] bcast_S_S4x4096x128 main_cst_11
  let main_v86 : FVec F S4x4096x128 .f32 := Host.divf main_v85 main_v84
  let main_v87 : FVec F S4x4096x128 .f32 := mulf main_v80 main_v86
  let main_v88 : FVec F S16x128 .f32 := (extractStridedSlice S16x128 ![0, 0] · slices_S48x128_S16x128_0_0) main_arg5
  let main_v89 : FVec F S4x4096x16 .f32 := (fun l r => Host.dotGeneral dot_S4x4096x128_S16x128_S4x4096x16_2_1_01_0_n_n none l r) main_v87 main_v88
  let main_v90 : FVec F S4x4096x128 .f32 := (fun l r => Host.dotGeneral dot_S4x4096x16_S128x16_S4x4096x128_2_1_01_0_n_n none l r) main_v89 main_arg6
  let main_v91 : FVec F S1x1x128 .f32 := broadcastInDim S1x1x128 ![2] bcast_S128_S1x1x128_2 main_arg7
  let main_v92 : FVec F S4x4096x128 .f32 := broadcastInDim S4x4096x128 ![0, 1, 2] bcast_S1x1x128_S4x4096x128_0_1_2 main_v91
  let main_v93 : FVec F S4x4096x128 .f32 := addf main_v90 main_v92
  let main_cst_12 : FVec F S_ .f32 := constant S_ .f32 0x41A00000#32
  let main_v94 : FVec F S4x4096x128 .f32 := broadcastInDim S4x4096x128 ![] bcast_S_S4x4096x128 main_cst_12
  let main_v95 : IVec S4x4096x128 1 := cmpf .ole main_v93 main_v94
  (main_v2, main_v5, main_v9, main_v12, main_v16, main_v19, main_v57, main_v95)

def fn_part3 {F : FTy → Type} [FloatOps F] (main_arg3 : FVec F S128x1x3 .f32) (main_arg5 : FVec F S48x128 .f32) (main_arg6 : FVec F S128x16 .f32) (main_arg7 : FVec F S128 .f32) (main_v2 : IVec S4x4096x256 1) (main_v5 : IVec S4x4096x256 1) (main_v9 : IVec S128x256 1) (main_v12 : IVec S128x1x3 1) (main_v16 : IVec S16x128 1) (main_v19 : IVec S128x16 1) (main_v57 : IVec S4x4096x128 1) (main_v60 : FVec F S4x4098x128 .f32) : IVec S4x4096x256 1 × IVec S4x4096x256 1 × IVec S128x256 1 × IVec S128x1x3 1 × IVec S16x128 1 × IVec S128x16 1 × IVec S4x4096x128 1 × IVec S4x4096x128 1 :=
  let main_v61 : FVec F S128x1x1 .f32 := (extractStridedSlice S128x1x1 ![0, 0, 0] · slices_S128x1x3_S128x1x1_0_0_0) main_arg3
  let main_v62 : FVec F S128 .f32 := shapeCast S128 main_v61 shapeCasts_S128x1x1_S128
  let main_v63 : FVec F S4x4096x128 .f32 := (extractStridedSlice S4x4096x128 ![0, 0, 0] · slices_S4x4098x128_S4x4096x128_0_0_0) main_v60
  let main_v64 : FVec F S1x1x128 .f32 := broadcastInDim S1x1x128 ![2] bcast_S128_S1x1x128_2 main_v62
  let main_v65 : FVec F S4x4096x128 .f32 := broadcastInDim S4x4096x128 ![0, 1, 2] bcast_S1x1x128_S4x4096x128_0_1_2 main_v64
  let main_v66 : FVec F S4x4096x128 .f32 := mulf main_v65 main_v63
  let main_v67 : FVec F S128x1x1 .f32 := (extractStridedSlice S128x1x1 ![0, 0, 1] · slices_S128x1x3_S128x1x1_0_0_1) main_arg3
  let main_v68 : FVec F S128 .f32 := shapeCast S128 main_v67 shapeCasts_S128x1x1_S128
  let main_v69 : FVec F S4x4096x128 .f32 := (extractStridedSlice S4x4096x128 ![0, 1, 0] · slices_S4x4098x128_S4x4096x128_0_1_0) main_v60
  let main_v70 : FVec F S1x1x128 .f32 := broadcastInDim S1x1x128 ![2] bcast_S128_S1x1x128_2 main_v68
  let main_v71 : FVec F S4x4096x128 .f32 := broadcastInDim S4x4096x128 ![0, 1, 2] bcast_S1x1x128_S4x4096x128_0_1_2 main_v70
  let main_v72 : FVec F S4x4096x128 .f32 := mulf main_v71 main_v69
  let main_v73 : FVec F S4x4096x128 .f32 := addf main_v66 main_v72
  let main_v74 : FVec F S128x1x1 .f32 := (extractStridedSlice S128x1x1 ![0, 0, 2] · slices_S128x1x3_S128x1x1_0_0_2) main_arg3
  let main_v75 : FVec F S128 .f32 := shapeCast S128 main_v74 shapeCasts_S128x1x1_S128
  let main_v76 : FVec F S4x4096x128 .f32 := (extractStridedSlice S4x4096x128 ![0, 2, 0] · slices_S4x4098x128_S4x4096x128_0_2_0) main_v60
  let main_v77 : FVec F S1x1x128 .f32 := broadcastInDim S1x1x128 ![2] bcast_S128_S1x1x128_2 main_v75
  let main_v78 : FVec F S4x4096x128 .f32 := broadcastInDim S4x4096x128 ![0, 1, 2] bcast_S1x1x128_S4x4096x128_0_1_2 main_v77
  let main_v79 : FVec F S4x4096x128 .f32 := mulf main_v78 main_v76
  let main_v80 : FVec F S4x4096x128 .f32 := addf main_v73 main_v79
  let main_v81 : FVec F S4x4096x128 .f32 := Host.negf main_v80
  let main_v82 : FVec F S4x4096x128 .f32 := Host.exp main_v81
  let main_cst_10 : FVec F S_ .f32 := constant S_ .f32 0x3F800000#32
  let main_v83 : FVec F S4x4096x128 .f32 := broadcastInDim S4x4096x128 ![] bcast_S_S4x4096x128 main_cst_10
  fn_part4 (F := F) main_arg5 main_arg6 main_arg7 main_v2 main_v5 main_v9 main_v12 main_v16 main_v19 main_v57 main_v80 main_v82 main_v83

def fn_part2 {F : FTy → Type} [FloatOps F] (main_arg1 : FVec F S4x4096x256 .f32) (main_arg2 : FVec F S256x256 .f32) (main_arg3 : FVec F S128x1x3 .f32) (main_arg5 : FVec F S48x128 .f32) (main_arg6 : FVec F S128x16 .f32) (main_arg7 : FVec F S128 .f32) (main_v2 : IVec S4x4096x256 1) (main_v5 : IVec S4x4096x256 1) (main_v9 : IVec S128x256 1) (main_v12 : IVec S128x1x3 1) (main_v16 : IVec S16x128 1) (main_v19 : IVec S128x16 1) (main_v35 : FVec F S4x4096x128 .f32) (main_v38 : FVec F S4x4096x128 .f32) (main_v40 : FVec F S4x4096x128 .f32) : IVec S4x4096x256 1 × IVec S4x4096x256 1 × IVec S128x256 1 × IVec S128x1x3 1 × IVec S16x128 1 × IVec S128x16 1 × IVec S4x4096x128 1 × IVec S4x4096x128 1 :=
  let main_v41 : FVec F S4x4096x128 .f32 := mulf main_v40 main_v38
  let main_v42 : FVec F S4x4096x128 .f32 := addf main_v35 main_v41
  let main_v43 : FVec F S4x4096x128 .f32 := Host.negf main_v42
  let main_v44 : FVec F S4x4096x128 .f32 := Host.exp main_v43
  let main_cst_6 : FVec F S_ .f32 := constant S_ .f32 0x3F800000#32
  let main_v45 : FVec F S4x4096x128 .f32 := broadcastInDim S4x4096x128 ![] bcast_S_S4x4096x128 main_cst_6
  let main_v46 : FVec F S4x4096x128 .f32 := addf main_v45 main_v44
  let main_cst_7 : FVec F S_ .f32 := constant S_ .f32 0x3F800000#32
  let main_v47 : FVec F S4x4096x128 .f32 := broadcastInDim S4x4096x128 ![] bcast_S_S4x4096x128 main_cst_7
  let main_v48 : FVec F S4x4096x128 .f32 := Host.divf main_v47 main_v46
  let main_v49 : FVec F S4x4096x128 .f32 := mulf main_v42 main_v48
  let main_v50 : FVec F S16x128 .f32 := (extractStridedSlice S16x128 ![0, 0] · slices_S48x128_S16x128_0_0) main_arg5
  let main_v51 : FVec F S4x4096x16 .f32 := (fun l r => Host.dotGeneral dot_S4x4096x128_S16x128_S4x4096x16_2_1_01_0_n_n none l r) main_v49 main_v50
  let main_v52 : FVec F S4x4096x128 .f32 := (fun l r => Host.dotGeneral dot_S4x4096x16_S128x16_S4x4096x128_2_1_01_0_n_n none l r) main_v51 main_arg6
  let main_v53 : FVec F S1x1x128 .f32 := broadcastInDim S1x1x128 ![2] bcast_S128_S1x1x128_2 main_arg7
  let main_v54 : FVec F S4x4096x128 .f32 := broadcastInDim S4x4096x128 ![0, 1, 2] bcast_S1x1x128_S4x4096x128_0_1_2 main_v53
  let main_v55 : FVec F S4x4096x128 .f32 := addf main_v52 main_v54
  let main_cst_8 : FVec F S_ .f32 := constant S_ .f32 0x41A00000#32
  let main_v56 : FVec F S4x4096x128 .f32 := broadcastInDim S4x4096x128 ![] bcast_S_S4x4096x128 main_cst_8
  let main_v57 : IVec S4x4096x128 1 := cmpf .ole main_v55 main_v56
  let main_v58 : FVec F S128x256 .f32 := (extractStridedSlice S128x256 ![0, 0] · slices_S256x256_S128x256_0_0) main_arg2
  let main_v59 : FVec F S4x4096x128 .f32 := (fun l r => Host.dotGeneral dot_S4x4096x256_S128x256_S4x4096x128_2_1_01_0_n_n none l r) main_arg1 main_v58
  let main_cst_9 : FVec F S_ .f32 := constant S_ .f32 0x00000000#32
  let main_v60 : FVec F S4x4098x128 .f32 := (fun x v => pad S4x4098x128 ![0, 1, 0] ![0, 1, 0] ![0, 0, 0] x v pads_S4x4096x128_S4x4098x128_000_110_000 h_S_) main_v59 main_cst_9
  fn_part3 (F := F) main_arg3 main_arg5 main_arg6 main_arg7 main_v2 main_v5 main_v9 main_v12 main_v16 main_v19 main_v57 main_v60

def fn_part1 {F : FTy → Type} [FloatOps F] (main_arg0 : FVec F S4x4096x256 .f32) (main_arg1 : FVec F S4x4096x256 .f32) (main_arg2 : FVec F S256x256 .f32) (main_arg3 : FVec F S128x1x3 .f32) (main_arg5 : FVec F S48x128 .f32) (main_arg6 : FVec F S128x16 .f32) (main_arg7 : FVec F S128 .f32) (main_v2 : IVec S4x4096x256 1) (main_v5 : IVec S4x4096x256 1) (main_v9 : IVec S128x256 1) (main_v12 : IVec S128x1x3 1) (main_v16 : IVec S16x128 1) (main_v17 : FVec F S128x16 .f32) (main_cst_4 : FVec F S_ .f32) : IVec S4x4096x256 1 × IVec S4x4096x256 1 × IVec S128x256 1 × IVec S128x1x3 1 × IVec S16x128 1 × IVec S128x16 1 × IVec S4x4096x128 1 × IVec S4x4096x128 1 :=
  let main_v18 : FVec F S128x16 .f32 := broadcastInDim S128x16 ![] bcast_S_S128x16 main_cst_4
  let main_v19 : IVec S128x16 1 := cmpf .olt main_v17 main_v18
  let main_v20 : FVec F S128x256 .f32 := (extractStridedSlice S128x256 ![0, 0] · slices_S256x256_S128x256_0_0) main_arg2
  let main_v21 : FVec F S4x4096x128 .f32 := (fun l r => Host.dotGeneral dot_S4x4096x256_S128x256_S4x4096x128_2_1_01_0_n_n none l r) main_arg0 main_v20
  let main_cst_5 : FVec F S_ .f32 := constant S_ .f32 0x00000000#32
  let main_v22 : FVec F S4x4098x128 .f32 := (fun x v => pad S4x4098x128 ![0, 1, 0] ![0, 1, 0] ![0, 0, 0] x v pads_S4x4096x128_S4x4098x128_000_110_000 h_S_) main_v21 main_cst_5
  let main_v23 : FVec F S128x1x1 .f32 := (extractStridedSlice S128x1x1 ![0, 0, 0] · slices_S128x1x3_S128x1x1_0_0_0) main_arg3
  let main_v24 : FVec F S128 .f32 := shapeCast S128 main_v23 shapeCasts_S128x1x1_S128
  let main_v25 : FVec F S4x4096x128 .f32 := (extractStridedSlice S4x4096x128 ![0, 0, 0] · slices_S4x4098x128_S4x4096x128_0_0_0) main_v22
  let main_v26 : FVec F S1x1x128 .f32 := broadcastInDim S1x1x128 ![2] bcast_S128_S1x1x128_2 main_v24
  let main_v27 : FVec F S4x4096x128 .f32 := broadcastInDim S4x4096x128 ![0, 1, 2] bcast_S1x1x128_S4x4096x128_0_1_2 main_v26
  let main_v28 : FVec F S4x4096x128 .f32 := mulf main_v27 main_v25
  let main_v29 : FVec F S128x1x1 .f32 := (extractStridedSlice S128x1x1 ![0, 0, 1] · slices_S128x1x3_S128x1x1_0_0_1) main_arg3
  let main_v30 : FVec F S128 .f32 := shapeCast S128 main_v29 shapeCasts_S128x1x1_S128
  let main_v31 : FVec F S4x4096x128 .f32 := (extractStridedSlice S4x4096x128 ![0, 1, 0] · slices_S4x4098x128_S4x4096x128_0_1_0) main_v22
  let main_v32 : FVec F S1x1x128 .f32 := broadcastInDim S1x1x128 ![2] bcast_S128_S1x1x128_2 main_v30
  let main_v33 : FVec F S4x4096x128 .f32 := broadcastInDim S4x4096x128 ![0, 1, 2] bcast_S1x1x128_S4x4096x128_0_1_2 main_v32
  let main_v34 : FVec F S4x4096x128 .f32 := mulf main_v33 main_v31
  let main_v35 : FVec F S4x4096x128 .f32 := addf main_v28 main_v34
  let main_v36 : FVec F S128x1x1 .f32 := (extractStridedSlice S128x1x1 ![0, 0, 2] · slices_S128x1x3_S128x1x1_0_0_2) main_arg3
  let main_v37 : FVec F S128 .f32 := shapeCast S128 main_v36 shapeCasts_S128x1x1_S128
  let main_v38 : FVec F S4x4096x128 .f32 := (extractStridedSlice S4x4096x128 ![0, 2, 0] · slices_S4x4098x128_S4x4096x128_0_2_0) main_v22
  let main_v39 : FVec F S1x1x128 .f32 := broadcastInDim S1x1x128 ![2] bcast_S128_S1x1x128_2 main_v37
  let main_v40 : FVec F S4x4096x128 .f32 := broadcastInDim S4x4096x128 ![0, 1, 2] bcast_S1x1x128_S4x4096x128_0_1_2 main_v39
  fn_part2 (F := F) main_arg1 main_arg2 main_arg3 main_arg5 main_arg6 main_arg7 main_v2 main_v5 main_v9 main_v12 main_v16 main_v19 main_v35 main_v38 main_v40

def fn {F : FTy → Type} [FloatOps F] (main_arg0 : FVec F S4x4096x256 .f32) (main_arg1 : FVec F S4x4096x256 .f32) (main_arg2 : FVec F S256x256 .f32) (main_arg3 : FVec F S128x1x3 .f32) (main_arg4 : FVec F S128x1x3 .f32) (main_arg5 : FVec F S48x128 .f32) (main_arg6 : FVec F S128x16 .f32) (main_arg7 : FVec F S128 .f32) (main_arg8 : FVec F S128x16 .f32) (main_arg9 : FVec F S128 .f32) (main_arg10 : FVec F S256x256 .f32) : IVec S4x4096x256 1 × IVec S4x4096x256 1 × IVec S128x256 1 × IVec S128x1x3 1 × IVec S16x128 1 × IVec S128x16 1 × IVec S4x4096x128 1 × IVec S4x4096x128 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_v3 : FVec F S4x4096x256 .f32 := Host.absf main_arg1
  let main_cst_0 : FVec F S_ .f32 := constant S_ .f32 0x7F800000#32
  let main_v4 : FVec F S4x4096x256 .f32 := broadcastInDim S4x4096x256 ![] bcast_S_S4x4096x256 main_cst_0
  let main_v5 : IVec S4x4096x256 1 := cmpf .olt main_v3 main_v4
  let main_v6 : FVec F S128x256 .f32 := (extractStridedSlice S128x256 ![0, 0] · slices_S256x256_S128x256_0_0) main_arg2
  let main_v7 : FVec F S128x256 .f32 := Host.absf main_v6
  let main_cst_1 : FVec F S_ .f32 := constant S_ .f32 0x7F800000#32
  let main_v8 : FVec F S128x256 .f32 := broadcastInDim S128x256 ![] bcast_S_S128x256 main_cst_1
  let main_v9 : IVec S128x256 1 := cmpf .olt main_v7 main_v8
  let main_v10 : FVec F S128x1x3 .f32 := Host.absf main_arg3
  let main_cst_2 : FVec F S_ .f32 := constant S_ .f32 0x7F800000#32
  let main_v11 : FVec F S128x1x3 .f32 := broadcastInDim S128x1x3 ![] bcast_S_S128x1x3 main_cst_2
  let main_v12 : IVec S128x1x3 1 := cmpf .olt main_v10 main_v11
  let main_v13 : FVec F S16x128 .f32 := (extractStridedSlice S16x128 ![0, 0] · slices_S48x128_S16x128_0_0) main_arg5
  let main_v14 : FVec F S16x128 .f32 := Host.absf main_v13
  let main_cst_3 : FVec F S_ .f32 := constant S_ .f32 0x7F800000#32
  let main_v15 : FVec F S16x128 .f32 := broadcastInDim S16x128 ![] bcast_S_S16x128 main_cst_3
  let main_v16 : IVec S16x128 1 := cmpf .olt main_v14 main_v15
  let main_v17 : FVec F S128x16 .f32 := Host.absf main_arg6
  let main_cst_4 : FVec F S_ .f32 := constant S_ .f32 0x7F800000#32
  fn_part1 (F := F) main_arg0 main_arg1 main_arg2 main_arg3 main_arg5 main_arg6 main_arg7 main_v2 main_v5 main_v9 main_v12 main_v16 main_v17 main_cst_4
-- ==== Kernel.lean ====
abbrev S4x4096x256 : Shape := ⟨3, ![4, 4096, 256]⟩
abbrev S256x256 : Shape := ⟨2, ![256, 256]⟩
abbrev S128x1x3 : Shape := ⟨3, ![128, 1, 3]⟩
abbrev S48x128 : Shape := ⟨2, ![48, 128]⟩
abbrev S128x16 : Shape := ⟨2, ![128, 16]⟩
abbrev S128 : Shape := ⟨1, ![128]⟩
abbrev S8x4096x256 : Shape := ⟨3, ![8, 4096, 256]⟩
abbrev S16x128 : Shape := ⟨2, ![16, 128]⟩
abbrev S128x128 : Shape := ⟨2, ![128, 128]⟩
abbrev S32x128 : Shape := ⟨2, ![32, 128]⟩
abbrev S128x1x1 : Shape := ⟨3, ![128, 1, 1]⟩
abbrev S1x128 : Shape := ⟨2, ![1, 128]⟩
abbrev S8x128 : Shape := ⟨2, ![8, 128]⟩
abbrev S2x4096x256 : Shape := ⟨3, ![2, 4096, 256]⟩
abbrev S4096x256 : Shape := ⟨2, ![4096, 256]⟩
abbrev S2x4096x128 : Shape := ⟨3, ![2, 4096, 128]⟩
abbrev S2x32x4096 : Shape := ⟨3, ![2, 32, 4096]⟩
abbrev S2x2048x128 : Shape := ⟨3, ![2, 2048, 128]⟩
abbrev S1x512x256 : Shape := ⟨3, ![1, 512, 256]⟩
abbrev S512x256 : Shape := ⟨2, ![512, 256]⟩
abbrev S512x128 : Shape := ⟨2, ![512, 128]⟩
abbrev S8x256 : Shape := ⟨2, ![8, 256]⟩
abbrev S511x128 : Shape := ⟨2, ![511, 128]⟩
abbrev S1x512x128 : Shape := ⟨3, ![1, 512, 128]⟩
abbrev S32x512 : Shape := ⟨2, ![32, 512]⟩
abbrev S1x32x512 : Shape := ⟨3, ![1, 32, 512]⟩
abbrev S1x128x128 : Shape := ⟨3, ![1, 128, 128]⟩
abbrev S1x16x128 : Shape := ⟨3, ![1, 16, 128]⟩
abbrev S16x1 : Shape := ⟨2, ![16, 1]⟩

abbrev nBuf : Space → Nat
  | .hbm => 46
  | .vmem => 17
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S128x1x3, .f32⟩
  | .hbm, ⟨4, _⟩ => ⟨S128x1x3, .f32⟩
  | .hbm, ⟨5, _⟩ => ⟨S48x128, .f32⟩
  | .hbm, ⟨6, _⟩ => ⟨S128x16, .f32⟩
  | .hbm, ⟨7, _⟩ => ⟨S128, .f32⟩
  | .hbm, ⟨8, _⟩ => ⟨S128x16, .f32⟩
  | .hbm, ⟨9, _⟩ => ⟨S128, .f32⟩
  | .hbm, ⟨10, _⟩ => ⟨S256x256, .f32⟩
  | .hbm, ⟨11, _⟩ => ⟨S8x4096x256, .f32⟩
  | .hbm, ⟨12, _⟩ => ⟨S256x256, .f32⟩
  | .hbm, ⟨13, _⟩ => ⟨S16x128, .f32⟩
  | .hbm, ⟨14, _⟩ => ⟨S128x16, .f32⟩
  | .hbm, ⟨15, _⟩ => ⟨S16x128, .f32⟩
  | .hbm, ⟨16, _⟩ => ⟨S128x128, .f32⟩
  | .hbm, ⟨17, _⟩ => ⟨S32x128, .f32⟩
  | .hbm, ⟨18, _⟩ => ⟨S256x256, .f32⟩
  | .hbm, ⟨19, _⟩ => ⟨S128x16, .f32⟩
  | .hbm, ⟨20, _⟩ => ⟨S16x128, .f32⟩
  | .hbm, ⟨21, _⟩ => ⟨S16x128, .f32⟩
  | .hbm, ⟨22, _⟩ => ⟨S128x1x1, .f32⟩
  | .hbm, ⟨23, _⟩ => ⟨S128, .f32⟩
  | .hbm, ⟨24, _⟩ => ⟨S128x1x1, .f32⟩
  | .hbm, ⟨25, _⟩ => ⟨S128, .f32⟩
  | .hbm, ⟨26, _⟩ => ⟨S128x1x1, .f32⟩
  | .hbm, ⟨27, _⟩ => ⟨S128, .f32⟩
  | .hbm, ⟨28, _⟩ => ⟨S128x1x1, .f32⟩
  | .hbm, ⟨29, _⟩ => ⟨S128, .f32⟩
  | .hbm, ⟨30, _⟩ => ⟨S128x1x1, .f32⟩
  | .hbm, ⟨31, _⟩ => ⟨S128, .f32⟩
  | .hbm, ⟨32, _⟩ => ⟨S128x1x1, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S8x128, .f32⟩
  | .hbm, ⟨43, _⟩ => ⟨S8x4096x256, .f32⟩
  | .hbm, ⟨44, _⟩ => ⟨S4x4096x256, .f32⟩
  | .hbm, ⟨45, _⟩ => ⟨S4x4096x256, .f32⟩
  | .local _ .vmem, ⟨0, _⟩ => ⟨S2x4096x256, .f32⟩
  | .local _ .vmem, ⟨1, _⟩ => ⟨S2x4096x256, .f32⟩
  | .local _ .vmem, ⟨2, _⟩ => ⟨S256x256, .f32⟩
  | .local _ .vmem, ⟨3, _⟩ => ⟨S128x128, .f32⟩
  | .local _ .vmem, ⟨4, _⟩ => ⟨S32x128, .f32⟩
  | .local _ .vmem, ⟨5, _⟩ => ⟨S256x256, .f32⟩
  | .local _ .vmem, ⟨6, _⟩ => ⟨S16x128, .f32⟩
  | .local _ .vmem, ⟨7, _⟩ => ⟨S8x128, .f32⟩
  | .local _ .vmem, ⟨8, _⟩ => ⟨S2x4096x256, .f32⟩
  | .local _ .vmem, ⟨9, _⟩ => ⟨S2x4096x256, .f32⟩
  | .local _ .vmem, ⟨10, _⟩ => ⟨S4096x256, .f32⟩
  | .local _ .vmem, ⟨11, _⟩ => ⟨S2x4096x128, .f32⟩
  | .local _ .vmem, ⟨12, _⟩ => ⟨S2x4096x128, .f32⟩
  | .local _ .vmem, ⟨13, _⟩ => ⟨S2x4096x128, .f32⟩
  | .local _ .vmem, ⟨14, _⟩ => ⟨S2x4096x128, .f32⟩
  | .local _ .vmem, ⟨15, _⟩ => ⟨S2x32x4096, .f32⟩
  | .local _ .vmem, ⟨16, _⟩ => ⟨S2x2048x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_681 : BitVec 32 := 0#32
  let c32_i32 : BitVec 32 := 32#32
  let v1397 : BitVec 32 := Scalar.addi c0_i32_681 c32_i32
  let c1_i32_682 : BitVec 32 := 1#32
  ⟨c0_i32_681, v1397, c1_i32_682⟩
def k0_mult1 (k0_t1 : Fin k0_t1_loop.trips) : BitVec 32 :=
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  v1673
def k0_off1 (k0_t1 : Fin k0_t1_loop.trips) : Fin 3 → Nat :=
  let c0_909 : Index := 0#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v1675 : Index := Scalar.indexCast v1674
  let c0_910 : Index := 0#32
  ![0, v1675.toNat, 0]
def k0_off2 (k0_t1 : Fin k0_t1_loop.trips) : Fin 3 → Nat :=
  let c1_911 : Index := 1#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v1678 : Index := Scalar.indexCast v1674
  let c0_912 : Index := 0#32
  ![1, v1678.toNat, 0]
def k0_off3 (k0_t1 : Fin k0_t1_loop.trips) : Fin 3 → Nat :=
  let c0_1562 : Index := 0#32
  let c0_1563 : Index := 0#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3479 : Index := Scalar.indexCast v1674
  ![0, 0, v3479.toNat]
def k0_off4 (k0_t1 : Fin k0_t1_loop.trips) : Fin 3 → Nat :=
  let c1_1564 : Index := 1#32
  let c0_1565 : Index := 0#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3482 : Index := Scalar.indexCast v1674
  ![1, 0, v3482.toNat]
def k0_off5 (k0_t1 : Fin k0_t1_loop.trips) : Fin 3 → Nat :=
  let c0_1566 : Index := 0#32
  let c16_1567 : Index := 16#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3485 : Index := Scalar.indexCast v1674
  ![0, 16, v3485.toNat]
def k0_off6 (k0_t1 : Fin k0_t1_loop.trips) : Fin 3 → Nat :=
  let c1_1568 : Index := 1#32
  let c16_1569 : Index := 16#32
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3488 : Index := Scalar.indexCast v1674
  ![1, 16, v3488.toNat]
def k0_off7 (k0_t1 : Fin k0_t1_loop.trips) (c0_i32_1619 : BitVec 32) : Fin 2 → Nat :=
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3702 : BitVec 32 := Scalar.addi v1674 c0_i32_1619
  let v3703 : Index := Scalar.indexCast v3702
  let c0_1620 : Index := 0#32
  ![v3703.toNat, 0]
def k0_off8 (k0_t1 : Fin k0_t1_loop.trips) (c0_i32_1622 : BitVec 32) : Fin 2 → Nat :=
  let c0_i32_681 : BitVec 32 := 0#32
  let c1_i32_682 : BitVec 32 := 1#32
  let arg16 : BitVec 32 := Scf.iv c0_i32_681 c1_i32_682 k0_t1
  let c128_i32 : BitVec 32 := 128#32
  let v1673 : BitVec 32 := Scalar.muli arg16 c128_i32
  let v1674 : BitVec 32 := v1673
  let v3708 : BitVec 32 := Scalar.addi v1674 c0_i32_1622
  let v3709 : Index := Scalar.indexCast v3708
  let c128_1623 : Index := 128#32
  ![v3709.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x256 : Shape := ⟨3, ![4, 4096, 256]⟩
abbrev S256x256 : Shape := ⟨2, ![256, 256]⟩
abbrev S128x1x3 : Shape := ⟨3, ![128, 1, 3]⟩
abbrev S48x128 : Shape := ⟨2, ![48, 128]⟩
abbrev S128x16 : Shape := ⟨2, ![128, 16]⟩
abbrev S128 : Shape := ⟨1, ![128]⟩
abbrev S128x256 : Shape := ⟨2, ![128, 256]⟩
abbrev S4x4096x128 : Shape := ⟨3, ![4, 4096, 128]⟩
abbrev S_ : Shape := ⟨0, ![]⟩
abbrev S4x4098x128 : Shape := ⟨3, ![4, 4098, 128]⟩
abbrev S128x1x1 : Shape := ⟨3, ![128, 1, 1]⟩
abbrev S1x1x128 : Shape := ⟨3, ![1, 1, 128]⟩
abbrev S4x4096x48 : Shape := ⟨3, ![4, 4096, 48]⟩
abbrev S4x4096x16 : Shape := ⟨3, ![4, 4096, 16]⟩
abbrev S4x128x16 : Shape := ⟨3, ![4, 128, 16]⟩
abbrev S4x4096x128x1 : Shape := ⟨4, ![4, 4096, 128, 1]⟩
abbrev S1x1x128x16 : Shape := ⟨4, ![1, 1, 128, 16]⟩
abbrev S4x4096x128x16 : Shape := ⟨4, ![4, 4096, 128, 16]⟩
abbrev S4x4096x1x16 : Shape := ⟨4, ![4, 4096, 1, 16]⟩
abbrev S4096x4x128x16 : Shape := ⟨4, ![4096, 4, 128, 16]⟩
abbrev S4096x4x16 : Shape := ⟨3, ![4096, 4, 16]⟩
abbrev S4096x4x128 : Shape := ⟨3, ![4096, 4, 128]⟩
abbrev S1x4x128x16 : Shape := ⟨4, ![1, 4, 128, 16]⟩
abbrev S1x4x16 : Shape := ⟨3, ![1, 4, 16]⟩
abbrev S4x16 : Shape := ⟨2, ![4, 16]⟩
abbrev S1x4x128 : Shape := ⟨3, ![1, 4, 128]⟩
abbrev S4x128 : Shape := ⟨2, ![4, 128]⟩

abbrev nBuf : Space → Nat
  | .hbm => 309
  | .vmem => 0
  | .smem => 0
  | _ => 0

abbrev hbmTy0_0 (i : Nat) : BufTy := match i % 128 with
  | 0 => ⟨S4x4096x256, .f32⟩
  | 1 => ⟨S4x4096x256, .f32⟩
  | 2 => ⟨S256x256, .f32⟩
  | 3 => ⟨S128x1x3, .f32⟩
  | 4 => ⟨S128x1x3, .f32⟩
  | 5 => ⟨S48x128, .f32⟩
  | 6 => ⟨S128x16, .f32⟩
  | 7 => ⟨S128, .f32⟩
  | 8 => ⟨S128x16, .f32⟩
  | 9 => ⟨S128, .f32⟩
  | 10 => ⟨S256x256, .f32⟩
  | 11 => ⟨S128x256, .f32⟩
  | 12 => ⟨S4x4096x128, .f32⟩
  | 13 => ⟨S_, .f32⟩
  | 14 => ⟨S4x4098x128, .f32⟩
  | 15 => ⟨S128x1x1, .f32⟩
  | 16 => ⟨S128, .f32⟩
  | 17 => ⟨S4x4096x128, .f32⟩
  | 18 => ⟨S1x1x128, .f32⟩
  | 19 => ⟨S4x4096x128, .f32⟩
  | 20 => ⟨S4x4096x128, .f32⟩
  | 21 => ⟨S128x1x1, .f32⟩
  | 22 => ⟨S128, .f32⟩
  | 23 => ⟨S4x4096x128, .f32⟩
  | 24 => ⟨S1x1x128, .f32⟩
  | 25 => ⟨S4x4096x128, .f32⟩
  | 26 => ⟨S4x4096x128, .f32⟩
  | 27 => ⟨S4x4096x128, .f32⟩
  | 28 => ⟨S128x1x1, .f32⟩
  | 29 => ⟨S128, .f32⟩
  | 30 => ⟨S4x4096x128, .f32⟩
  | 31 => ⟨S1x1x128, .f32⟩
  | 32 => ⟨S4x4096x128, .f32⟩
  | 33 => ⟨S4x4096x128, .f32⟩
  | 34 => ⟨S4x4096x128, .f32⟩
  | 35 => ⟨S4x4096x128, .f32⟩
  | 36 => ⟨S4x4096x128, .f32⟩
  | 37 => ⟨S_, .f32⟩
  | 38 => ⟨S4x4096x128, .f32⟩
  | 39 => ⟨S4x4096x128, .f32⟩
  | 40 => ⟨S_, .f32⟩
  | 41 => ⟨S4x4096x128, .f32⟩
  | 42 => ⟨S4x4096x128, .f32⟩
  | 43 => ⟨S4x4096x128, .f32⟩
  | 44 => ⟨S4x4096x48, .f32⟩
  | 45 => ⟨S4x4096x16, .f32⟩
  | 46 => ⟨S4x4096x16, .f32⟩
  | 47 => ⟨S4x4096x16, .f32⟩
  | 48 => ⟨S4x4096x128, .f32⟩
  | 49 => ⟨S1x1x128, .f32⟩
  | 50 => ⟨S4x4096x128, .f32⟩
  | 51 => ⟨S4x4096x128, .f32⟩
  | 52 => ⟨S_, .f32⟩
  | 53 => ⟨S4x4096x128, .f32⟩
  | 54 => ⟨S4x4096x128, .f32⟩
  | 55 => ⟨S4x4096x128, .f32⟩
  | 56 => ⟨S4x4096x128, .f32⟩
  | 57 => ⟨S4x4096x128, .i1⟩
  | 58 => ⟨S4x4096x128, .f32⟩
  | 59 => ⟨S4x4096x128, .f32⟩
  | 60 => ⟨S4x4096x128, .f32⟩
  | 61 => ⟨S4x4096x128, .f32⟩
  | 62 => ⟨S4x4096x128, .f32⟩
  | 63 => ⟨S4x4096x128, .f32⟩
  | 64 => ⟨S4x4096x128, .f32⟩
  | 65 => ⟨S4x4096x128, .f32⟩
  | 66 => ⟨S128x256, .f32⟩
  | 67 => ⟨S4x4096x128, .f32⟩
  | 68 => ⟨S_, .f32⟩
  | 69 => ⟨S4x4098x128, .f32⟩
  | 70 => ⟨S128x1x1, .f32⟩
  | 71 => ⟨S128, .f32⟩
  | 72 => ⟨S4x4096x128, .f32⟩
  | 73 => ⟨S1x1x128, .f32⟩
  | 74 => ⟨S4x4096x128, .f32⟩
  | 75 => ⟨S4x4096x128, .f32⟩
  | 76 => ⟨S128x1x1, .f32⟩
  | 77 => ⟨S128, .f32⟩
  | 78 => ⟨S4x4096x128, .f32⟩
  | 79 => ⟨S1x1x128, .f32⟩
  | 80 => ⟨S4x4096x128, .f32⟩
  | 81 => ⟨S4x4096x128, .f32⟩
  | 82 => ⟨S4x4096x128, .f32⟩
  | 83 => ⟨S128x1x1, .f32⟩
  | 84 => ⟨S128, .f32⟩
  | 85 => ⟨S4x4096x128, .f32⟩
  | 86 => ⟨S1x1x128, .f32⟩
  | 87 => ⟨S4x4096x128, .f32⟩
  | 88 => ⟨S4x4096x128, .f32⟩
  | 89 => ⟨S4x4096x128, .f32⟩
  | 90 => ⟨S4x4096x128, .f32⟩
  | 91 => ⟨S4x4096x128, .f32⟩
  | 92 => ⟨S_, .f32⟩
  | 93 => ⟨S4x4096x128, .f32⟩
  | 94 => ⟨S4x4096x128, .f32⟩
  | 95 => ⟨S_, .f32⟩
  | 96 => ⟨S4x4096x128, .f32⟩
  | 97 => ⟨S4x4096x128, .f32⟩
  | 98 => ⟨S4x4096x128, .f32⟩
  | 99 => ⟨S4x4096x48, .f32⟩
  | 100 => ⟨S4x4096x16, .f32⟩
  | 101 => ⟨S4x4096x16, .f32⟩
  | 102 => ⟨S4x4096x16, .f32⟩
  | 103 => ⟨S4x4096x128, .f32⟩
  | 104 => ⟨S1x1x128, .f32⟩
  | 105 => ⟨S4x4096x128, .f32⟩
  | 106 => ⟨S4x4096x128, .f32⟩
  | 107 => ⟨S_, .f32⟩
  | 108 => ⟨S4x4096x128, .f32⟩
  | 109 => ⟨S4x4096x128, .f32⟩
  | 110 => ⟨S4x4096x128, .f32⟩
  | 111 => ⟨S4x4096x128, .f32⟩
  | 112 => ⟨S4x4096x128, .i1⟩
  | 113 => ⟨S4x4096x128, .f32⟩
  | 114 => ⟨S4x4096x128, .f32⟩
  | 115 => ⟨S4x4096x128, .f32⟩
  | 116 => ⟨S4x4096x128, .f32⟩
  | 117 => ⟨S4x4096x128, .f32⟩
  | 118 => ⟨S4x4096x128, .f32⟩
  | 119 => ⟨S4x4096x128, .f32⟩
  | 120 => ⟨S4x4096x128, .f32⟩
  | 121 => ⟨S128x16, .f32⟩
  | 122 => ⟨S128x16, .f32⟩
  | 123 => ⟨S_, .f32⟩
  | 124 => ⟨S4x128x16, .f32⟩
  | 125 => ⟨S4x4096x128x1, .f32⟩
  | 126 => ⟨S1x1x128x16, .f32⟩
  | 127 => ⟨S4x4096x128x16, .f32⟩
  | _ => ⟨S4x4096x256, .f32⟩

abbrev hbmTy0_1 (i : Nat) : BufTy := match i % 128 with
  | 0 => ⟨S4x4096x128x16, .f32⟩
  | 1 => ⟨S4x4096x128x16, .f32⟩
  | 2 => ⟨S4x4096x128x16, .f32⟩
  | 3 => ⟨S4x4096x128, .f32⟩
  | 4 => ⟨S4x4096x128x1, .f32⟩
  | 5 => ⟨S4x4096x1x16, .f32⟩
  | 6 => ⟨S4x4096x128x16, .f32⟩
  | 7 => ⟨S4x4096x128x16, .f32⟩
  | 8 => ⟨S4x4096x128x16, .f32⟩
  | 9 => ⟨S1x1x128, .f32⟩
  | 10 => ⟨S4x4096x128, .f32⟩
  | 11 => ⟨S4x4096x128, .f32⟩
  | 12 => ⟨S4096x4x128x16, .f32⟩
  | 13 => ⟨S4096x4x128x16, .f32⟩
  | 14 => ⟨S4096x4x16, .f32⟩
  | 15 => ⟨S4096x4x128, .f32⟩
  | 16 => ⟨S4x4096x128x1, .f32⟩
  | 17 => ⟨S1x1x128x16, .f32⟩
  | 18 => ⟨S4x4096x128x16, .f32⟩
  | 19 => ⟨S4x4096x128x16, .f32⟩
  | 20 => ⟨S4x4096x128x16, .f32⟩
  | 21 => ⟨S4x4096x128x16, .f32⟩
  | 22 => ⟨S4x4096x128, .f32⟩
  | 23 => ⟨S4x4096x128x1, .f32⟩
  | 24 => ⟨S4x4096x1x16, .f32⟩
  | 25 => ⟨S4x4096x128x16, .f32⟩
  | 26 => ⟨S4x4096x128x16, .f32⟩
  | 27 => ⟨S4x4096x128x16, .f32⟩
  | 28 => ⟨S1x1x128, .f32⟩
  | 29 => ⟨S4x4096x128, .f32⟩
  | 30 => ⟨S4x4096x128, .f32⟩
  | 31 => ⟨S4096x4x128x16, .f32⟩
  | 32 => ⟨S4096x4x128x16, .f32⟩
  | 33 => ⟨S4096x4x16, .f32⟩
  | 34 => ⟨S4096x4x128, .f32⟩
  | 35 => ⟨S_, .f32⟩
  | 36 => ⟨S4096x4x128, .f32⟩
  | 37 => ⟨S_, .f32⟩
  | 38 => ⟨S4096x4x128, .f32⟩
  | 39 => ⟨S_, .i32⟩
  | 40 => ⟨S4096x4x128x16, .f32⟩
  | 41 => ⟨S4096x4x128x16, .f32⟩
  | 42 => ⟨S4096x4x16, .f32⟩
  | 43 => ⟨S4096x4x128, .f32⟩
  | 44 => ⟨S4096x4x128x16, .f32⟩
  | 45 => ⟨S4096x4x128x16, .f32⟩
  | 46 => ⟨S4096x4x16, .f32⟩
  | 47 => ⟨S4096x4x128, .f32⟩
  | 48 => ⟨S_, .i32⟩
  | 49 => ⟨S4x128x16, .f32⟩
  | 50 => ⟨S4x128x16, .f32⟩
  | 51 => ⟨S4096x4x128, .f32⟩
  | 52 => ⟨S4096x4x128, .f32⟩
  | 53 => ⟨S_, .i32⟩
  | 54 => ⟨S_, .i1⟩
  | 55 => ⟨S_, .i32⟩
  | 56 => ⟨S_, .i32⟩
  | 57 => ⟨S_, .i32⟩
  | 58 => ⟨S1x4x128x16, .f32⟩
  | 59 => ⟨S4x128x16, .f32⟩
  | 60 => ⟨S_, .i32⟩
  | 61 => ⟨S_, .i32⟩
  | 62 => ⟨S_, .i32⟩
  | 63 => ⟨S1x4x128x16, .f32⟩
  | 64 => ⟨S4x128x16, .f32⟩
  | 65 => ⟨S_, .i32⟩
  | 66 => ⟨S_, .i32⟩
  | 67 => ⟨S1x4x16, .f32⟩
  | 68 => ⟨S4x16, .f32⟩
  | 69 => ⟨S_, .i32⟩
  | 70 => ⟨S_, .i32⟩
  | 71 => ⟨S1x4x128, .f32⟩
  | 72 => ⟨S4x128, .f32⟩
  | 73 => ⟨S_, .i32⟩
  | 74 => ⟨S_, .i32⟩
  | 75 => ⟨S_, .i32⟩
  | 76 => ⟨S1x4x128x16, .f32⟩
  | 77 => ⟨S4x128x16, .f32⟩
  | 78 => ⟨S_, .i32⟩
  | 79 => ⟨S_, .i32⟩
  | 80 => ⟨S_, .i32⟩
  | 81 => ⟨S1x4x128x16, .f32⟩
  | 82 => ⟨S4x128x16, .f32⟩
  | 83 => ⟨S_, .i32⟩
  | 84 => ⟨S_, .i32⟩
  | 85 => ⟨S1x4x16, .f32⟩
  | 86 => ⟨S4x16, .f32⟩
  | 87 => ⟨S_, .i32⟩
  | 88 => ⟨S_, .i32⟩
  | 89 => ⟨S1x4x128, .f32⟩
  | 90 => ⟨S4x128, .f32⟩
  | 91 => ⟨S4x128x16, .f32⟩
  | 92 => ⟨S4x128x16, .f32⟩
  | 93 => ⟨S4x128x16, .f32⟩
  | 94 => ⟨S4x128x16, .f32⟩
  | 95 => ⟨S4x128, .f32⟩
  | 96 => ⟨S4x128, .f32⟩
  | 97 => ⟨S4x128, .f32⟩
  | 98 => ⟨S4x128, .f32⟩
  | 99 => ⟨S1x4x128, .f32⟩
  | 100 => ⟨S_, .i32⟩
  | 101 => ⟨S_, .i32⟩
  | 102 => ⟨S4096x4x128, .f32⟩
  | 103 => ⟨S1x4x128, .f32⟩
  | 104 => ⟨S_, .i32⟩
  | 105 => ⟨S_, .i32⟩
  | 106 => ⟨S4096x4x128, .f32⟩
  | 107 => ⟨S_, .i32⟩
  | 108 => ⟨S_, .i32⟩
  | 109 => ⟨S4x4096x128, .f32⟩
  | 110 => ⟨S4x4096x128, .f32⟩
  | 111 => ⟨S128x256, .f32⟩
  | 112 => ⟨S4x4096x128, .f32⟩
  | 113 => ⟨S_, .f32⟩
  | 114 => ⟨S4x4098x128, .f32⟩
  | 115 => ⟨S128x1x1, .f32⟩
  | 116 => ⟨S128, .f32⟩
  | 117 => ⟨S4x4096x128, .f32⟩
  | 118 => ⟨S1x1x128, .f32⟩
  | 119 => ⟨S4x4096x128, .f32⟩
  | 120 => ⟨S4x4096x128, .f32⟩
  | 121 => ⟨S128x1x1, .f32⟩
  | 122 => ⟨S128, .f32⟩
  | 123 => ⟨S4x4096x128, .f32⟩
  | 124 => ⟨S1x1x128, .f32⟩
  | 125 => ⟨S4x4096x128, .f32⟩
  | 126 => ⟨S4x4096x128, .f32⟩
  | 127 => ⟨S4x4096x128, .f32⟩
  | _ => ⟨S4x4096x256, .f32⟩

abbrev hbmTy0_2 (i : Nat) : BufTy := match i % 128 with
  | 0 => ⟨S128x1x1, .f32⟩
  | 1 => ⟨S128, .f32⟩
  | 2 => ⟨S4x4096x128, .f32⟩
  | 3 => ⟨S1x1x128, .f32⟩
  | 4 => ⟨S4x4096x128, .f32⟩
  | 5 => ⟨S4x4096x128, .f32⟩
  | 6 => ⟨S4x4096x128, .f32⟩
  | 7 => ⟨S4x4096x128, .f32⟩
  | 8 => ⟨S4x4096x128, .f32⟩
  | 9 => ⟨S_, .f32⟩
  | 10 => ⟨S4x4096x128, .f32⟩
  | 11 => ⟨S4x4096x128, .f32⟩
  | 12 => ⟨S_, .f32⟩
  | 13 => ⟨S4x4096x128, .f32⟩
  | 14 => ⟨S4x4096x128, .f32⟩
  | 15 => ⟨S4x4096x128, .f32⟩
  | 16 => ⟨S4x4096x256, .f32⟩
  | 17 => ⟨S4x4096x256, .f32⟩
  | 18 => ⟨S128x256, .f32⟩
  | 19 => ⟨S4x4096x128, .f32⟩
  | 20 => ⟨S_, .f32⟩
  | 21 => ⟨S4x4098x128, .f32⟩
  | 22 => ⟨S128x1x1, .f32⟩
  | 23 => ⟨S128, .f32⟩
  | 24 => ⟨S4x4096x128, .f32⟩
  | 25 => ⟨S1x1x128, .f32⟩
  | 26 => ⟨S4x4096x128, .f32⟩
  | 27 => ⟨S4x4096x128, .f32⟩
  | 28 => ⟨S128x1x1, .f32⟩
  | 29 => ⟨S128, .f32⟩
  | 30 => ⟨S4x4096x128, .f32⟩
  | 31 => ⟨S1x1x128, .f32⟩
  | 32 => ⟨S4x4096x128, .f32⟩
  | 33 => ⟨S4x4096x128, .f32⟩
  | 34 => ⟨S4x4096x128, .f32⟩
  | 35 => ⟨S128x1x1, .f32⟩
  | 36 => ⟨S128, .f32⟩
  | 37 => ⟨S4x4096x128, .f32⟩
  | 38 => ⟨S1x1x128, .f32⟩
  | 39 => ⟨S4x4096x128, .f32⟩
  | 40 => ⟨S4x4096x128, .f32⟩
  | 41 => ⟨S4x4096x128, .f32⟩
  | 42 => ⟨S4x4096x128, .f32⟩
  | 43 => ⟨S4x4096x128, .f32⟩
  | 44 => ⟨S_, .f32⟩
  | 45 => ⟨S4x4096x128, .f32⟩
  | 46 => ⟨S4x4096x128, .f32⟩
  | 47 => ⟨S_, .f32⟩
  | 48 => ⟨S4x4096x128, .f32⟩
  | 49 => ⟨S4x4096x128, .f32⟩
  | 50 => ⟨S4x4096x128, .f32⟩
  | 51 => ⟨S4x4096x256, .f32⟩
  | 52 => ⟨S4x4096x256, .f32⟩
  | _ => ⟨S4x4096x256, .f32⟩

abbrev hbmTy (i : Nat) : BufTy := match i / 128 with
  | 0 => hbmTy0_0 i
  | 1 => hbmTy0_1 i
  | 2 => hbmTy0_2 i
  | _ => ⟨S4x4096x256, .f32⟩

abbrev bufTy : (tb : Table) → Fin (tcTables nBuf tb) → BufTy
  | .hbm, ⟨i, _⟩ => hbmTy i
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_0 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_1 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_2 : Ref sig .tc := ⟨.hbm, 163, rfl⟩
abbrev main_v107 : Ref sig .tc := ⟨.hbm, 164, rfl⟩
abbrev main_cst_3 : Ref sig .tc := ⟨.hbm, 165, rfl⟩
abbrev main_v108 : Ref sig .tc := ⟨.hbm, 166, rfl⟩
abbrev main_c : Ref sig .tc := ⟨.hbm, 167, rfl⟩
abbrev main_v109_0 : Ref sig .tc := ⟨.hbm, 168, rfl⟩
abbrev main_v109_1 : Ref sig .tc := ⟨.hbm, 169, rfl⟩
abbrev main_v109_2 : Ref sig .tc := ⟨.hbm, 170, rfl⟩
abbrev main_v109_3 : Ref sig .tc := ⟨.hbm, 171, rfl⟩
abbrev main_v109_4 : Ref sig .tc := ⟨.hbm, 172, rfl⟩
abbrev main_v109_5 : Ref sig .tc := ⟨.hbm, 173, rfl⟩
abbrev main_v109_6 : Ref sig .tc := ⟨.hbm, 174, rfl⟩
abbrev main_v109_7 : Ref sig .tc := ⟨.hbm, 175, rfl⟩
abbrev main_v109_8 : Ref sig .tc := ⟨.hbm, 176, rfl⟩
abbrev main_v109_9 : Ref sig .tc := ⟨.hbm, 177, rfl⟩
abbrev main_v109_10 : Ref sig .tc := ⟨.hbm, 178, rfl⟩
abbrev main_v109_11 : Ref sig .tc := ⟨.hbm, 179, rfl⟩
abbrev main_v109_12 : Ref sig .tc := ⟨.hbm, 180, rfl⟩
abbrev main_while0c_c_18 : Ref sig .tc := ⟨.hbm, 181, rfl⟩
abbrev main_while0c_v164 : Ref sig .tc := ⟨.hbm, 182, rfl⟩
abbrev main_while0b_call4_c : Ref sig .tc := ⟨.hbm, 183, rfl⟩
abbrev main_while0b_call4_c_0 : Ref sig .tc := ⟨.hbm, 184, rfl⟩
abbrev main_while0b_call4_c_1 : Ref sig .tc := ⟨.hbm, 185, rfl⟩
abbrev main_while0b_call4_v0 : Ref sig .tc := ⟨.hbm, 186, rfl⟩
abbrev main_while0b_v164 : Ref sig .tc := ⟨.hbm, 187, rfl⟩
abbrev main_while0b_call5_c : Ref sig .tc := ⟨.hbm, 188, rfl⟩
abbrev main_while0b_call5_c_0 : Ref sig .tc := ⟨.hbm, 189, rfl⟩
abbrev main_while0b_call5_c_1 : Ref sig .tc := ⟨.hbm, 190, rfl⟩
abbrev main_while0b_call5_v0 : Ref sig .tc := ⟨.hbm, 191, rfl⟩
abbrev main_while0b_v165 : Ref sig .tc := ⟨.hbm, 192, rfl⟩
abbrev main_while0b_call6_c : Ref sig .tc := ⟨.hbm, 193, rfl⟩
abbrev main_while0b_call6_c_0 : Ref sig .tc := ⟨.hbm, 194, rfl⟩
abbrev main_while0b_call6_v0 : Ref sig .tc := ⟨.hbm, 195, rfl⟩
abbrev main_while0b_v166 : Ref sig .tc := ⟨.hbm, 196, rfl⟩
abbrev main_while0b_call7_c : Ref sig .tc := ⟨.hbm, 197, rfl⟩
abbrev main_while0b_call7_c_0 : Ref sig .tc := ⟨.hbm, 198, rfl⟩
abbrev main_while0b_call7_v0 : Ref sig .tc := ⟨.hbm, 199, rfl⟩
abbrev main_while0b_v167 : Ref sig .tc := ⟨.hbm, 200, rfl⟩
abbrev main_while0b_call8_c : Ref sig .tc := ⟨.hbm, 201, rfl⟩
abbrev main_while0b_call8_c_0 : Ref sig .tc := ⟨.hbm, 202, rfl⟩
abbrev main_while0b_call8_c_1 : Ref sig .tc := ⟨.hbm, 203, rfl⟩
abbrev main_while0b_call8_v0 : Ref sig .tc := ⟨.hbm, 204, rfl⟩
abbrev main_while0b_v168 : Ref sig .tc := ⟨.hbm, 205, rfl⟩
abbrev main_while0b_call9_c : Ref sig .tc := ⟨.hbm, 206, rfl⟩
abbrev main_while0b_call9_c_0 : Ref sig .tc := ⟨.hbm, 207, rfl⟩
abbrev main_while0b_call9_c_1 : Ref sig .tc := ⟨.hbm, 208, rfl⟩
abbrev main_while0b_call9_v0 : Ref sig .tc := ⟨.hbm, 209, rfl⟩
abbrev main_while0b_v169 : Ref sig .tc := ⟨.hbm, 210, rfl⟩
abbrev main_while0b_call10_c : Ref sig .tc := ⟨.hbm, 211, rfl⟩
abbrev main_while0b_call10_c_0 : Ref sig .tc := ⟨.hbm, 212, rfl⟩
abbrev main_while0b_call10_v0 : Ref sig .tc := ⟨.hbm, 213, rfl⟩
abbrev main_while0b_v170 : Ref sig .tc := ⟨.hbm, 214, rfl⟩
abbrev main_while0b_call11_c : Ref sig .tc := ⟨.hbm, 215, rfl⟩
abbrev main_while0b_call11_c_0 : Ref sig .tc := ⟨.hbm, 216, rfl⟩
abbrev main_while0b_call11_v0 : Ref sig .tc := ⟨.hbm, 217, rfl⟩
abbrev main_while0b_v171 : Ref sig .tc := ⟨.hbm, 218, rfl⟩
abbrev main_while0b_v172 : Ref sig .tc := ⟨.hbm, 219, rfl⟩
abbrev main_while0b_v173 : Ref sig .tc := ⟨.hbm, 220, rfl⟩
abbrev main_while0b_v174 : Ref sig .tc := ⟨.hbm, 221, rfl⟩
abbrev main_while0b_v175 : Ref sig .tc := ⟨.hbm, 222, rfl⟩
abbrev main_while0b_v176 : Ref sig .tc := ⟨.hbm, 223, rfl⟩
abbrev main_while0b_v177 : Ref sig .tc := ⟨.hbm, 224, rfl⟩
abbrev main_while0b_v178 : Ref sig .tc := ⟨.hbm, 225, rfl⟩
abbrev main_while0b_v179 : Ref sig .tc := ⟨.hbm, 226, rfl⟩
abbrev main_while0b_call12_v0 : Ref sig .tc := ⟨.hbm, 227, rfl⟩
abbrev main_while0b_call12_c : Ref sig .tc := ⟨.hbm, 228, rfl⟩
abbrev main_while0b_call12_c_0 : Ref sig .tc := ⟨.hbm, 229, rfl⟩
abbrev main_while0b_v180 : Ref sig .tc := ⟨.hbm, 230, rfl⟩
abbrev main_while0b_call13_v0 : Ref sig .tc := ⟨.hbm, 231, rfl⟩
abbrev main_while0b_call13_c : Ref sig .tc := ⟨.hbm, 232, rfl⟩
abbrev main_while0b_call13_c_0 : Ref sig .tc := ⟨.hbm, 233, rfl⟩
abbrev main_while0b_v181 : Ref sig .tc := ⟨.hbm, 234, rfl⟩
abbrev main_while0b_c_18 : Ref sig .tc := ⟨.hbm, 235, rfl⟩
abbrev main_while0b_v182 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_cst_4 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_call14_v0 : Ref sig .tc := ⟨.hbm, 263, rfl⟩
abbrev main_call14_v1 : Ref sig .tc := ⟨.hbm, 264, rfl⟩
abbrev main_call14_cst : Ref sig .tc := ⟨.hbm, 265, rfl⟩
abbrev main_call14_v2 : Ref sig .tc := ⟨.hbm, 266, rfl⟩
abbrev main_call14_v3 : Ref sig .tc := ⟨.hbm, 267, rfl⟩
abbrev main_call14_cst_0 : Ref sig .tc := ⟨.hbm, 268, rfl⟩
abbrev main_call14_v4 : Ref sig .tc := ⟨.hbm, 269, rfl⟩
abbrev main_call14_v5 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_cst_5 : Ref sig .tc := ⟨.hbm, 276, rfl⟩
abbrev main_v140 : Ref sig .tc := ⟨.hbm, 277, rfl⟩
abbrev main_v141 : Ref sig .tc := ⟨.hbm, 278, rfl⟩
abbrev main_v142 : Ref sig .tc := ⟨.hbm, 279, rfl⟩
abbrev main_v143 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_call15_v0 : Ref sig .tc := ⟨.hbm, 298, rfl⟩
abbrev main_call15_v1 : Ref sig .tc := ⟨.hbm, 299, rfl⟩
abbrev main_call15_cst : Ref sig .tc := ⟨.hbm, 300, rfl⟩
abbrev main_call15_v2 : Ref sig .tc := ⟨.hbm, 301, rfl⟩
abbrev main_call15_v3 : Ref sig .tc := ⟨.hbm, 302, rfl⟩
abbrev main_call15_cst_0 : Ref sig .tc := ⟨.hbm, 303, rfl⟩
abbrev main_call15_v4 : Ref sig .tc := ⟨.hbm, 304, rfl⟩
abbrev main_call15_v5 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩

abbrev nD : Nat := 1
abbrev τ : Topo := Topo.v7x

variable {F : FTy → Type} [FloatOps F]

abbrev main_while0_count : Scf.Loop 32 := ⟨0#32, 4096#32, 1#32⟩
-- ==== Proof.KernelIdealTrip.lean ====
/- One trip of the scan loop of the program `KernelIdeal`: the trip is run once at a symbolic trip number, and what it
   computes is then stated in a form one can read: the 128 steps of the recurrence as a recursion on the step, the block
   of decays it parks in the scratch as a recursion on the row, and each output tile as one function of its number.
   The trip found by the run is equal to these by unfolding; in particular what it computes does not depend on what it
   finds in the two buffers it writes. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-! ### `k0_t1_loop`: the generated invariant (classifier: affine) -/

/-- One trip's resources: what the region reads (arg12, arg13, arg14) at its contents, what it
   writes (arg9, arg15) at any. -/
abbrev Trip_k0_t1 (c : Dev nD) (arg12 : Memref sig .tc .vmem S2x4096x128 .f32) (arg13 : Memref sig .tc .vmem S2x4096x128 .f32) (arg14 : Memref sig .tc .vmem S2x32x4096 .f32) (arg9 : Memref sig .tc .vmem S4096x256 .f32) (arg15 : Memref sig .tc .vmem S2x2048x128 .f32) (X_arg12 : BufTy.Contents (Elt F) arg12.view.ty) (X_arg13 : BufTy.Contents (Elt F) arg13.view.ty) (X_arg14 : BufTy.Contents (Elt F) arg14.view.ty) (f_arg9 : BufTy.Contents (Elt F) arg9.view.ty) (f_arg15 : BufTy.Contents (Elt F) arg15.view.ty) : sProp 𝕄G :=
  iprop((arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg9.view.loc (c : Thread nD τ) ↦[arg9.view.set]{fullShare} f_arg9) ∗ (arg15.view.loc (c : Thread nD τ) ↦[arg15.view.set]{fullShare} f_arg15))

/-- ONE TRIP of `k0_t1_loop` at a symbolic `k` and carried value `acc`, run by `sl_exec` (its
   rectangles' offsets closed forms of `k`, their geometry linear arithmetic): what it yields and
   the pieces it writes into arg9, arg15 are the run's own finds — the witnesses `sl_close` assigns
   handing the buffers to the continuation, as functions of the carried value and of the contents
   the trip finds in the memrefs it writes (the region loads some of them back). `@[irreducible]`:
   cited, never unfolded. -/
@[irreducible] def trip_k0_t1 (𝒱 : Variants) (c : Dev nD) (bd : Option 𝒱.V) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole) (v1364 : FVec F S16x128 .f32) (v1365 : IVec S8x128 32) (X_arg12 : BufTy.Contents (Elt F) arg12.view.ty) (X_arg13 : BufTy.Contents (Elt F) arg13.view.ty) (X_arg14 : BufTy.Contents (Elt F) arg14.view.ty) (k : Fin k0_t1_loop.trips) :
    Σ' (R_k0_t1 : ((FVec F S16x128 .f32 × FVec F S16x128 .f32) → BufTy.Contents (Elt F) arg9.view.ty → BufTy.Contents (Elt F) arg15.view.ty → FVec F S16x128 .f32 × FVec F S16x128 .f32)) (L_arg9 : ((FVec F S16x128 .f32 × FVec F S16x128 .f32) → BufTy.Contents (Elt F) arg9.view.ty → BufTy.Contents (Elt F) arg15.view.ty → List (View.Piece (Elt F) S4096x256 .f32))) , { L_arg15 : ((FVec F S16x128 .f32 × FVec F S16x128 .f32) → BufTy.Contents (Elt F) arg9.view.ty → BufTy.Contents (Elt F) arg15.view.ty → List (View.Piece (Elt F) S2x2048x128 .f32)) // ∀ (E : Set ℕ) (acc : FVec F S16x128 .f32 × FVec F S16x128 .f32) (f_arg9 : BufTy.Contents (Elt F) arg9.view.ty) (f_arg15 : BufTy.Contents (Elt F) arg15.view.ty),
      Trip_k0_t1 (F := F) c arg12 arg13 arg14 arg9 arg15 X_arg12 X_arg13 X_arg14 f_arg9 f_arg15
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v1364 v1365 k acc)
          (fun yld => iprop(⌜yld = R_k0_t1 acc f_arg9 f_arg15⌝ ∗ Trip_k0_t1 (F := F) c arg12 arg13 arg14 arg9 arg15 X_arg12 X_arg13 X_arg14 (arg9.view.writes (Elt F) f_arg9 (L_arg9 acc f_arg9 f_arg15)) (arg15.view.writes (Elt F) f_arg15 (L_arg15 acc f_arg9 f_arg15)))) } := by
  have hk : k.val < 32 := Nat.lt_of_lt_of_le k.isLt k0_t1_abs.2.1
  refine ⟨?_, ?_, ?_, fun E acc f_arg9 f_arg15 => ?run⟩
  case run =>
    unfold k0_t1_body
    iintro ⟨HR_arg12, HR_arg13, HR_arg14, HW_arg9, HW_arg15⟩
    sl_exec
    sl_step
    sl_close

end Cert.KernelIdeal.Gen

set_option maxRecDepth 100000

namespace Cert.KernelIdeal.Scan

open Idealize.ShloMosaic Idealize.ShloMosaic.TcCoe Cert.KernelIdeal Cert.KernelIdeal.Gen

variable {F : FTy → Type} [FloatOps F]

theorem row_ok {j : Nat} (h : j < 128) : S128x128.Slices ![j, 0] S1x128 :=
  ⟨rfl, fun a => match a with
    | ⟨0, _⟩ => (by omega : j + 1 ≤ 128)
    | ⟨1, _⟩ => (by omega : 0 + 128 ≤ 128)⟩

theorem col_ok {j : Nat} (h : j < 128) : S16x128.Slices ![0, j] S16x1 :=
  ⟨rfl, fun a => match a with
    | ⟨0, _⟩ => (by omega : 0 + 16 ≤ 16)
    | ⟨1, _⟩ => (by omega : j + 1 ≤ 128)⟩

/-- Row `j` of a 128 × 128 block, repeated over the 16 states. -/
def row (X : FVec F S128x128 .f32) (j : Nat) (h : j < 128) : FVec F S16x128 .f32 :=
  broadcastTo S16x128 (extractStridedSlice S1x128 ![j, 0] X (row_ok h)) broadcasts_S1x128_S16x128

/-- Column `j` of a 16 × 128 block, repeated over the 128 channels. -/
def col (B : FVec F S16x128 .f32) (j : Nat) (h : j < 128) : FVec F S16x128 .f32 :=
  broadcastTo S16x128 (extractStridedSlice S16x1 ![0, j] B (col_ok h)) broadcasts_S16x1_S16x128

/-- The decay of step `j`: `exp (A · Δ_j)`, as the block the scratch keeps. -/
def decay (A : FVec F S16x128 .f32) (D : FVec F S128x128 .f32) (j : Nat) (h : j < 128) : FVec F S1x16x128 .f32 :=
  shapeCast S1x16x128 (exp (mulf A (row D j h))) shapeCasts_S16x128_S1x16x128

/-- The state after `j` steps from `h₀`. -/
def hs (X : FVec F S128x128 .f32) (B : FVec F S16x128 .f32) (a : Fin 128 → Vec F S1x16x128 .f32)
    (h₀ : FVec F S16x128 .f32) : (j : Nat) → j ≤ 128 → FVec F S16x128 .f32
  | 0, _ => h₀
  | j + 1, h =>
    addf (mulf (shapeCast S16x128 (a ⟨j, h⟩) shapeCasts_S1x16x128_S16x128)
        (hs X B a h₀ j (Nat.le_of_succ_le h)))
      (mulf (row X j h) (col B j h))

theorem slot_ok {s j : Nat} (hs : s < 2) (hj : j < 128) :
    ∀ a, (![s, 16 * j, 0] : Fin 3 → Nat) a + S1x16x128.size a ≤ S2x2048x128.size a := fun a => match a with
  | ⟨0, _⟩ => (by omega : s + 1 ≤ 2)
  | ⟨1, _⟩ => (by omega : 16 * j + 16 ≤ 2048)
  | ⟨2, _⟩ => (by omega : 0 + 128 ≤ 128)

/-- Where the decay of step `j` of stream `s` lies in the scratch. -/
abbrev slot (s j : Nat) (hs : s < 2) (hj : j < 128) : Rect S2x2048x128 :=
  Rect.unit ![s, 16 * j, 0] S1x16x128.size (slot_ok hs hj)

/-- The decays of the first `j` steps of the two streams, the last stored first. -/
def decays (A : FVec F S16x128 .f32) (D0 D1 : FVec F S128x128 .f32) :
    (j : Nat) → j ≤ 128 → List (View.Piece (Elt F) S2x2048x128 .f32)
  | 0, _ => []
  | j + 1, h =>
    ⟨slot 1 j (by omega) h, decay A D1 j h⟩ :: ⟨slot 0 j (by omega) h, decay A D0 j h⟩ ::
      decays A D0 D1 j (Nat.le_of_succ_le h)

variable (arg12 : Memref sig .tc .vmem S2x4096x128 .f32)
  (arg13 : Memref sig .tc .vmem S2x4096x128 .f32) (arg14 : Memref sig .tc .vmem S2x32x4096 .f32)
  (arg15 : Memref sig .tc .vmem S2x2048x128 .f32)
  (A : FVec F S16x128 .f32) (v1365 : IVec S8x128 32)
  (X12 : BufTy.Contents (Elt F) arg12.view.ty) (X13 : BufTy.Contents (Elt F) arg13.view.ty)
  (X14 : BufTy.Contents (Elt F) arg14.view.ty) (k : Fin k0_t1_loop.trips)

theorem HW_eq : trip_k0_t1.sl.HW_arg15_256 arg12 A X12 k
    = decays A (trip_k0_t1.sl.r arg12 X12 k) (trip_k0_t1.sl.r_1 arg12 X12 k) 128 (Nat.le_refl _) := by
  rfl

/-- The decay of step `j` of stream `s` as a trip loads it back. -/
def loaded (s : Nat) (hs : s < 2) (j : Fin 128) : Vec F S1x16x128 .f32 :=
  arg15.view.readCov (decays A (trip_k0_t1.sl.r arg12 X12 k) (trip_k0_t1.sl.r_1 arg12 X12 k) 128 (Nat.le_refl _))
    (slot s j hs j.isLt).toLoadRect

/-- The weighted states of step `j`: what the block sum adds up. -/
def wt (X : FVec F S128x128 .f32) (B C : FVec F S16x128 .f32) (a : Fin 128 → Vec F S1x16x128 .f32)
    (h₀ : FVec F S16x128 .f32) (j : Nat) (h : j < 128) : FVec F S16x128 .bf16 :=
  truncf .bf16 (mulf (hs X B a h₀ (j + 1) h) (col C j h)) bitsLt_bf16_f32

/-- The eight output rows of steps `8 g … 8 g + 7`. -/
def ytile (X : FVec F S128x128 .f32) (B C : FVec F S16x128 .f32) (a : Fin 128 → Vec F S1x16x128 .f32)
    (h₀ : FVec F S16x128 .f32) (g : Nat) (h : g < 16) : FVec F S8x128 .f32 :=
  shapeCast S8x128 (matmul dot_S8x128_S128x128_S8x128_1_0_0_1_n_n none (k0_pay1109 (F := F) v1365)
    (concatenate S128x128 0 [⟨S16x128, wt X B C a h₀ (8 * g) (by omega)⟩, ⟨S16x128, wt X B C a h₀ (8 * g + 1) (by omega)⟩,
      ⟨S16x128, wt X B C a h₀ (8 * g + 2) (by omega)⟩, ⟨S16x128, wt X B C a h₀ (8 * g + 3) (by omega)⟩,
      ⟨S16x128, wt X B C a h₀ (8 * g + 4) (by omega)⟩, ⟨S16x128, wt X B C a h₀ (8 * g + 5) (by omega)⟩,
      ⟨S16x128, wt X B C a h₀ (8 * g + 6) (by omega)⟩, ⟨S16x128, wt X B C a h₀ (8 * g + 7) (by omega)⟩]
      concatenates_S16x128_S16x128_S16x128_S16x128_S16x128_S16x128_S16x128_S16x128_S128x128_d0)
    (constant S8x128 .f32 0x00000000#32)) shapeCasts_S8x128_S8x128

/-- The tiles of the first `g` groups of eight steps, the last stored first. -/
def ytiles (X0 X1 : FVec F S128x128 .f32) (B0 C0 B1 C1 : FVec F S16x128 .f32) (a0 a1 : Fin 128 → Vec F S1x16x128 .f32)
    (h₀ h₁ : FVec F S16x128 .f32) : (g : Nat) → g ≤ 16 → List (View.Piece (Elt F) S4096x256 .f32)
  | 0, _ => []
  | g + 1, h =>
    ⟨Rect.unit (k0_off8 k (BitVec.ofNat 32 (8 * g))) S8x128.size (k0_off8_inb k ⟨g, h⟩), ytile v1365 X1 B1 C1 a1 h₁ g h⟩ ::
      ⟨Rect.unit (k0_off7 k (BitVec.ofNat 32 (8 * g))) S8x128.size (k0_off7_inb k ⟨g, h⟩), ytile v1365 X0 B0 C0 a0 h₀ g h⟩ ::
        ytiles X0 X1 B0 C0 B1 C1 a0 a1 h₀ h₁ g (Nat.le_of_succ_le h)

section trip

variable (𝒱 : Variants) (c : Dev nD) (bd : Option 𝒱.V) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (harg12 : arg12.IsWhole) (harg13 : arg13.IsWhole) (harg14 : arg14.IsWhole) (harg15 : arg15.IsWhole)

theorem trip_carry (acc f9 f15) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 A v1365 X12 X13 X14 k).1 acc f9 f15
      = (hs (trip_k0_t1.sl.r_45 arg13 X13 k) (trip_k0_t1.sl.r_47 arg14 X14 k) (loaded arg12 arg15 A X12 k 0 (by omega)) acc.1 128 (Nat.le_refl _),
         hs (trip_k0_t1.sl.r_46 arg13 X13 k) (trip_k0_t1.sl.r_48 arg14 X14 k) (loaded arg12 arg15 A X12 k 1 (by omega)) acc.2 128 (Nat.le_refl _)) := by
  unfold trip_k0_t1
  rfl

theorem trip_tiles (acc f9 f15) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 A v1365 X12 X13 X14 k).2.1 acc f9 f15
      = ytiles v1365 k (trip_k0_t1.sl.r_45 arg13 X13 k) (trip_k0_t1.sl.r_46 arg13 X13 k) (trip_k0_t1.sl.r_47 arg14 X14 k)
          (trip_k0_t1.sl.r_49 arg14 X14 k) (trip_k0_t1.sl.r_48 arg14 X14 k) (trip_k0_t1.sl.r_50 arg14 X14 k)
          (loaded arg12 arg15 A X12 k 0 (by omega)) (loaded arg12 arg15 A X12 k 1 (by omega)) acc.1 acc.2 16 (Nat.le_refl _) := by
  unfold trip_k0_t1
  rfl

theorem trip_decays (acc f9 f15) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 A v1365 X12 X13 X14 k).2.2.1 acc f9 f15
      = decays A (trip_k0_t1.sl.r arg12 X12 k) (trip_k0_t1.sl.r_1 arg12 X12 k) 128 (Nat.le_refl _) := by
  unfold trip_k0_t1
  exact HW_eq arg12 A X12 k

end trip

end Cert.KernelIdeal.Scan

end
-- ==== Proof.KernelIdealLoops.lean ====
/- The scan loop of the program `KernelIdeal` by its invariant: the pieces the trips store and the two states they carry
   are collected by recursion over the trips, and the instance of the loop's class says that before trip `k` the scratch
   holds the pieces of the trips before `k`. It follows the generated instance for a loop that carries a value, with the
   trip's results in the form `KernelIdealTrip` gives them, which do not depend on the contents the loop starts from. -/
module

public import proofs.«01_k».proof.Proof.KernelIdealTrip

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The two states after trip `k`, from the two before it. -/
def carry_k0_t1 (arg12 : Memref sig .tc .vmem S2x4096x128 .f32) (arg13 : Memref sig .tc .vmem S2x4096x128 .f32)
    (arg14 : Memref sig .tc .vmem S2x32x4096 .f32) (arg15 : Memref sig .tc .vmem S2x2048x128 .f32)
    (v1364 : FVec F S16x128 .f32) (v1365 : IVec S8x128 32) (X_arg12 : BufTy.Contents (Elt F) arg12.view.ty)
    (X_arg13 : BufTy.Contents (Elt F) arg13.view.ty) (X_arg14 : BufTy.Contents (Elt F) arg14.view.ty) (k : Fin k0_t1_loop.trips)
    (acc : FVec F S16x128 .f32 × FVec F S16x128 .f32) : FVec F S16x128 .f32 × FVec F S16x128 .f32 :=
  (Scan.hs (trip_k0_t1.sl.r_45 arg13 X_arg13 k) (trip_k0_t1.sl.r_47 arg14 X_arg14 k)
      (Scan.loaded arg12 arg15 v1364 X_arg12 k 0 (by omega)) acc.1 128 (Nat.le_refl _),
    Scan.hs (trip_k0_t1.sl.r_46 arg13 X_arg13 k) (trip_k0_t1.sl.r_48 arg14 X_arg14 k)
      (Scan.loaded arg12 arg15 v1364 X_arg12 k 1 (by omega)) acc.2 128 (Nat.le_refl _))

/-- The output tiles of trip `k`, from the two states before it. -/
def tiles_k0_t1 (arg12 : Memref sig .tc .vmem S2x4096x128 .f32) (arg13 : Memref sig .tc .vmem S2x4096x128 .f32)
    (arg14 : Memref sig .tc .vmem S2x32x4096 .f32) (arg15 : Memref sig .tc .vmem S2x2048x128 .f32)
    (v1364 : FVec F S16x128 .f32) (v1365 : IVec S8x128 32) (X_arg12 : BufTy.Contents (Elt F) arg12.view.ty)
    (X_arg13 : BufTy.Contents (Elt F) arg13.view.ty) (X_arg14 : BufTy.Contents (Elt F) arg14.view.ty) (k : Fin k0_t1_loop.trips)
    (acc : FVec F S16x128 .f32 × FVec F S16x128 .f32) : List (View.Piece (Elt F) S4096x256 .f32) :=
  Scan.ytiles v1365 k (trip_k0_t1.sl.r_45 arg13 X_arg13 k) (trip_k0_t1.sl.r_46 arg13 X_arg13 k) (trip_k0_t1.sl.r_47 arg14 X_arg14 k)
      (trip_k0_t1.sl.r_49 arg14 X_arg14 k) (trip_k0_t1.sl.r_48 arg14 X_arg14 k) (trip_k0_t1.sl.r_50 arg14 X_arg14 k)
      (Scan.loaded arg12 arg15 v1364 X_arg12 k 0 (by omega)) (Scan.loaded arg12 arg15 v1364 X_arg12 k 1 (by omega)) acc.1 acc.2 16 (Nat.le_refl _)

/-- The decays trip `k` parks. -/
def parked_k0_t1 (arg12 : Memref sig .tc .vmem S2x4096x128 .f32) (v1364 : FVec F S16x128 .f32)
    (X_arg12 : BufTy.Contents (Elt F) arg12.view.ty) (k : Fin k0_t1_loop.trips) : List (View.Piece (Elt F) S2x2048x128 .f32) :=
  Scan.decays v1364 (trip_k0_t1.sl.r arg12 X_arg12 k) (trip_k0_t1.sl.r_1 arg12 X_arg12 k) 128 (Nat.le_refl _)

/-- Trip `k`'s contribution to the state before it. -/
@[irreducible] def st_k0_t1Step (arg12 : Memref sig .tc .vmem S2x4096x128 .f32) (arg13 : Memref sig .tc .vmem S2x4096x128 .f32)
    (arg14 : Memref sig .tc .vmem S2x32x4096 .f32) (arg15 : Memref sig .tc .vmem S2x2048x128 .f32)
    (v1364 : FVec F S16x128 .f32) (v1365 : IVec S8x128 32) (X_arg12 : BufTy.Contents (Elt F) arg12.view.ty)
    (X_arg13 : BufTy.Contents (Elt F) arg13.view.ty) (X_arg14 : BufTy.Contents (Elt F) arg14.view.ty) (k : ℕ)
    (prev : (FVec F S16x128 .f32 × FVec F S16x128 .f32) × List (View.Piece (Elt F) S4096x256 .f32) × List (View.Piece (Elt F) S2x2048x128 .f32)) :
    (FVec F S16x128 .f32 × FVec F S16x128 .f32) × List (View.Piece (Elt F) S4096x256 .f32) × List (View.Piece (Elt F) S2x2048x128 .f32) :=
  if h : k < k0_t1_loop.trips then
    (carry_k0_t1 arg12 arg13 arg14 arg15 v1364 v1365 X_arg12 X_arg13 X_arg14 ⟨k, h⟩ prev.1,
     tiles_k0_t1 arg12 arg13 arg14 arg15 v1364 v1365 X_arg12 X_arg13 X_arg14 ⟨k, h⟩ prev.1 ++ prev.2.1,
     parked_k0_t1 arg12 v1364 X_arg12 ⟨k, h⟩ ++ prev.2.2)
  else prev

/-- THE STATE before trip `k`: the two carried states and, per written buffer, the pieces of the trips before (last
    first). -/
def st_k0_t1 (arg12 : Memref sig .tc .vmem S2x4096x128 .f32) (arg13 : Memref sig .tc .vmem S2x4096x128 .f32)
    (arg14 : Memref sig .tc .vmem S2x32x4096 .f32) (arg15 : Memref sig .tc .vmem S2x2048x128 .f32)
    (v1364 : FVec F S16x128 .f32) (v1365 : IVec S8x128 32) (X_arg12 : BufTy.Contents (Elt F) arg12.view.ty)
    (X_arg13 : BufTy.Contents (Elt F) arg13.view.ty) (X_arg14 : BufTy.Contents (Elt F) arg14.view.ty) (init : FVec F S16x128 .f32 × FVec F S16x128 .f32) :
    ℕ → (FVec F S16x128 .f32 × FVec F S16x128 .f32) × List (View.Piece (Elt F) S4096x256 .f32) × List (View.Piece (Elt F) S2x2048x128 .f32)
  | 0 => (init, [], [])
  | k + 1 => st_k0_t1Step arg12 arg13 arg14 arg15 v1364 v1365 X_arg12 X_arg13 X_arg14 k (st_k0_t1 arg12 arg13 arg14 arg15 v1364 v1365 X_arg12 X_arg13 X_arg14 init k)

theorem st_k0_t1_succ (arg12 : Memref sig .tc .vmem S2x4096x128 .f32) (arg13 : Memref sig .tc .vmem S2x4096x128 .f32)
    (arg14 : Memref sig .tc .vmem S2x32x4096 .f32) (arg15 : Memref sig .tc .vmem S2x2048x128 .f32)
    (v1364 : FVec F S16x128 .f32) (v1365 : IVec S8x128 32) (X_arg12 : BufTy.Contents (Elt F) arg12.view.ty)
    (X_arg13 : BufTy.Contents (Elt F) arg13.view.ty) (X_arg14 : BufTy.Contents (Elt F) arg14.view.ty) (init : FVec F S16x128 .f32 × FVec F S16x128 .f32) (k : Fin k0_t1_loop.trips) :
    st_k0_t1 (F := F) arg12 arg13 arg14 arg15 v1364 v1365 X_arg12 X_arg13 X_arg14 init (k.val + 1)
      = (carry_k0_t1 arg12 arg13 arg14 arg15 v1364 v1365 X_arg12 X_arg13 X_arg14 k (st_k0_t1 arg12 arg13 arg14 arg15 v1364 v1365 X_arg12 X_arg13 X_arg14 init k.val).1,
         tiles_k0_t1 arg12 arg13 arg14 arg15 v1364 v1365 X_arg12 X_arg13 X_arg14 k (st_k0_t1 arg12 arg13 arg14 arg15 v1364 v1365 X_arg12 X_arg13 X_arg14 init k.val).1 ++ (st_k0_t1 arg12 arg13 arg14 arg15 v1364 v1365 X_arg12 X_arg13 X_arg14 init k.val).2.1,
         parked_k0_t1 arg12 v1364 X_arg12 k ++ (st_k0_t1 arg12 arg13 arg14 arg15 v1364 v1365 X_arg12 X_arg13 X_arg14 init k.val).2.2) := by
  rw [st_k0_t1.eq_2]; unfold st_k0_t1Step; exact dif_pos k.isLt

/-- THE INVARIANT before trip `k`: arg12, arg13, arg14 read at `X_·`; arg9, arg15 holding the pieces
   of the trips before `k` written over the contents at loop entry `G_·` (stated `∃ f, … ∗ ⌜f = …⌝`,
   so that a hypothesis of any contents matches and the equation is what is proved); and `acc` equal
   to the state's carried value (an equation the run substitutes after the loop). -/
abbrev inv_k0_t1 (𝒱 : Variants) (c : Dev nD) (bd : Option 𝒱.V) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole) (v1364 : FVec F S16x128 .f32) (v1365 : IVec S8x128 32) (X_arg12 : BufTy.Contents (Elt F) arg12.view.ty) (X_arg13 : BufTy.Contents (Elt F) arg13.view.ty) (X_arg14 : BufTy.Contents (Elt F) arg14.view.ty) (G_arg9 : BufTy.Contents (Elt F) arg9.view.ty) (G_arg15 : BufTy.Contents (Elt F) arg15.view.ty) (init : FVec F S16x128 .f32 × FVec F S16x128 .f32) (k : ℕ) (acc : FVec F S16x128 .f32 × FVec F S16x128 .f32) : sProp 𝕄G :=
  iprop((arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (∃ f, (arg9.view.loc (c : Thread nD τ) ↦[arg9.view.set]{fullShare} f) ∗ ⌜f = arg9.view.writes (Elt F) G_arg9 (st_k0_t1 (F := F) arg12 arg13 arg14 arg15 v1364 v1365 X_arg12 X_arg13 X_arg14 init k).2.1⌝) ∗ (∃ f, (arg15.view.loc (c : Thread nD τ) ↦[arg15.view.set]{fullShare} f) ∗ ⌜f = arg15.view.writes (Elt F) G_arg15 (st_k0_t1 (F := F) arg12 arg13 arg14 arg15 v1364 v1365 X_arg12 X_arg13 X_arg14 init k).2.2⌝) ∗ ⌜acc = (st_k0_t1 (F := F) arg12 arg13 arg14 arg15 v1364 v1365 X_arg12 X_arg13 X_arg14 init k).1⌝)

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole) (v1364 : FVec F S16x128 .f32) (v1365 : IVec S8x128 32) (X_arg12 : BufTy.Contents (Elt F) arg12.view.ty) (X_arg13 : BufTy.Contents (Elt F) arg13.view.ty) (X_arg14 : BufTy.Contents (Elt F) arg14.view.ty) (G_arg9 : BufTy.Contents (Elt F) arg9.view.ty) (G_arg15 : BufTy.Contents (Elt F) arg15.view.ty) (init : FVec F S16x128 .f32 × FVec F S16x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v1364 v1365 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1364 v1365 X_arg12 X_arg13 X_arg14 G_arg9 G_arg15 init
  step k acc := by
    iintro ⟨HR_arg12, HR_arg13, HR_arg14, ⟨%f_arg9, HW_arg9, %h_arg9⟩, ⟨%f_arg15, HW_arg15, %h_arg15⟩, %h_acc⟩
    subst h_acc
    iapply (wp_wand_r Idealize.ShloMosaic.frame (wpE (defs₀ (F := F)) 𝒱 (c : Thread nD τ) bd) E)
    isplitl [HR_arg12 HR_arg13 HR_arg14 HW_arg9 HW_arg15]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1364 v1365 X_arg12 X_arg13 X_arg14 k).2.2.2 E (st_k0_t1 (F := F) arg12 arg13 arg14 arg15 v1364 v1365 X_arg12 X_arg13 X_arg14 init k).1 f_arg9 f_arg15)
      isplitl [HR_arg12]; · iexact HR_arg12
      isplitl [HR_arg13]; · iexact HR_arg13
      isplitl [HR_arg14]; · iexact HR_arg14
      isplitl [HW_arg9]; · iexact HW_arg9
      iexact HW_arg15
    · iintro %yld ⟨%h_res, HR_arg12, HR_arg13, HR_arg14, HW_arg9, HW_arg15⟩
      isplitl [HR_arg12]; · iexact HR_arg12
      isplitl [HR_arg13]; · iexact HR_arg13
      isplitl [HR_arg14]; · iexact HR_arg14
      subst h_arg9; subst h_arg15; subst h_res
      rw [Scan.trip_carry, Scan.trip_tiles, Scan.trip_decays, st_k0_t1_succ]
      isplitl [HW_arg9]
      · iexists _; isplitl [HW_arg9]; · iexact HW_arg9
        ipureintro; exact (View.writes_append _ _ _ _).symm
      isplitl [HW_arg15]
      · iexists _; isplitl [HW_arg15]; · iexact HW_arg15
        ipureintro; exact (View.writes_append _ _ _ _).symm
      ipureintro; rfl

end Cert.KernelIdeal.Gen

end
-- ==== Proof.KernelIdealScan.lean ====
/- What the scan loop of the program `KernelIdeal` computes, at the extended reals: before trip `k` each carried state is
   the recurrence `h ↦ exp (A Δ_t) h + (Δ u)_t B_t` after `128 k` steps from zero, and every stored tile is the sum over the
   16 states of `h_t C_t`. -/
module

public import proofs.«01_k».proof.Proof.KernelIdealLoops
public import Idealize.ShloMosaic.Lib.Pointwise
public import Idealize.ShloMosaic.Lib.Pipeline.CanonAppend
public import Idealize.ShloMosaic.Lib.Pipeline.ValueKit.Geometry

@[expose] public section

noncomputable section

namespace Cert.KernelIdeal.Scan

open Idealize.ShloMosaic Idealize.ShloMosaic.TcCoe Cert.KernelIdeal Cert.KernelIdeal.Gen

theorem row_apply (X : FVec Ideal S128x128 .f32) (j : Nat) (h : j < 128) (n : Fin 16) (d : Fin 128) :
    row X j h (ix2 n d) = X (ix2 ⟨j, h⟩ d) := by
  pointwise [row]

theorem col_apply (B : FVec Ideal S16x128 .f32) (j : Nat) (h : j < 128) (n : Fin 16) (d : Fin 128) :
    col B j h (ix2 n d) = B (ix2 n ⟨j, h⟩) := by
  pointwise [col]

theorem decay_apply (A : FVec Ideal S16x128 .f32) (D : FVec Ideal S128x128 .f32) (j : Nat) (h : j < 128) (n : Fin 16) (d : Fin 128) :
    decay A D j h (ix3 0 n d) = Ideal.exp (A (ix2 n d) * D (ix2 ⟨j, h⟩ d)) := by
  pointwise [decay, row_apply]

theorem zero_apply (n : Fin 16) (d : Fin 128) : k0_pay1110 (F := Ideal) (ix2 n d) = 0 := by
  pointwise [k0_pay1110]

/-- Step `t` of a stream's state at state `n`, channel `d`, from zero. -/
def hseq (A : FVec Ideal S16x128 .f32) (dl dx : S2x4096x128.Idx → EReal) (bc : S2x32x4096.Idx → EReal) (s : Fin 2) (n : Fin 16)
    (d : Fin 128) : ℕ → EReal
  | 0 => 0
  | t + 1 => if h : t < 4096 then
      Ideal.exp (A (ix2 n d) * dl (ix3 s ⟨t, h⟩ d)) * hseq A dl dx bc s n d t
        + dx (ix3 s ⟨t, h⟩ d) * bc (ix3 s ⟨n, by omega⟩ ⟨t, h⟩)
    else 0

/-- The output of step `t`: the sum over the states. -/
def yval (A : FVec Ideal S16x128 .f32) (dl dx : S2x4096x128.Idx → EReal) (bc : S2x32x4096.Idx → EReal) (s : Fin 2) (t : Fin 4096)
    (d : Fin 128) : EReal :=
  ∑ n : Fin 16, hseq A dl dx bc s n d (t + 1) * bc (ix3 s ⟨16 + n, by omega⟩ t)

section step

variable (A : FVec Ideal S16x128 .f32) (dl dx : S2x4096x128.Idx → EReal) (bc : S2x32x4096.Idx → EReal) (s : Fin 2)

theorem hs_apply (k : Fin 32) (X : FVec Ideal S128x128 .f32) (B : FVec Ideal S16x128 .f32) (a : Fin 128 → Vec Ideal S1x16x128 .f32)
    (h₀ : FVec Ideal S16x128 .f32)
    (hX : ∀ (j : Fin 128) (d : Fin 128), X (ix2 j d) = dx (ix3 s ⟨128 * k + j, by omega⟩ d))
    (hB : ∀ (n : Fin 16) (j : Fin 128), B (ix2 n j) = bc (ix3 s ⟨n, by omega⟩ ⟨128 * k + j, by omega⟩))
    (ha : ∀ (j : Fin 128) (n : Fin 16) (d : Fin 128), a j (ix3 0 n d) = Ideal.exp (A (ix2 n d) * dl (ix3 s ⟨128 * k + j, by omega⟩ d)))
    (hh : ∀ (n : Fin 16) (d : Fin 128), h₀ (ix2 n d) = hseq A dl dx bc s n d (128 * k)) :
    ∀ (j : Nat) (h : j ≤ 128) (n : Fin 16) (d : Fin 128), hs X B a h₀ j h (ix2 n d) = hseq A dl dx bc s n d (128 * k + j)
  | 0, h, n, d => hh n d
  | j + 1, h, n, d => by
    have ih := hs_apply k X B a h₀ hX hB ha hh j (Nat.le_of_succ_le h) n d
    have hlt : 128 * k.val + j < 4096 := by omega
    have e : shapeCast S16x128 (a ⟨j, h⟩) shapeCasts_S1x16x128_S16x128 (ix2 n d) = a ⟨j, h⟩ (ix3 0 n d) := by pointwise
    rw [show hs X B a h₀ (j + 1) h = addf (mulf (shapeCast S16x128 (a ⟨j, h⟩) shapeCasts_S1x16x128_S16x128)
        (hs X B a h₀ j (Nat.le_of_succ_le h))) (mulf (row X j h) (col B j h)) from rfl]
    rw [ValueIdx.addf_apply, ValueIdx.mulf_apply, ValueIdx.mulf_apply, e, ih, row_apply, col_apply, hX, hB, ha,
      show 128 * k.val + (j + 1) = (128 * k.val + j) + 1 from rfl, hseq, dif_pos hlt]

theorem wt_apply (k : Fin 32) (X : FVec Ideal S128x128 .f32) (B C : FVec Ideal S16x128 .f32) (a : Fin 128 → Vec Ideal S1x16x128 .f32)
    (h₀ : FVec Ideal S16x128 .f32)
    (hs' : ∀ (j : Nat) (h : j ≤ 128) (n : Fin 16) (d : Fin 128), hs X B a h₀ j h (ix2 n d) = hseq A dl dx bc s n d (128 * k + j))
    (hC : ∀ (n : Fin 16) (j : Fin 128), C (ix2 n j) = bc (ix3 s ⟨16 + n, by omega⟩ ⟨128 * k + j, by omega⟩))
    (j : Nat) (h : j < 128) (n : Fin 16) (d : Fin 128) :
    wt X B C a h₀ j h (ix2 n d)
      = hseq A dl dx bc s n d (128 * k + j + 1) * bc (ix3 s ⟨16 + n, by omega⟩ ⟨128 * k + j, by omega⟩) := by
  unfold wt
  rw [ValueIdx.truncf_apply, ValueIdx.mulf_apply, hs', col_apply, hC]
  rfl

end step

theorem select_of_bit {b : BitVec 1} {p : Prop} [Decidable p] (h : b = if p then 1#1 else 0#1) (x y : EReal) :
    Scalar.select b x y = if p then x else y := by
  subst h
  by_cases hp : p
  · simp [hp, Scalar.select]
  · simp [hp, Scalar.select]

/-- The 0/1 matrix that adds up the 16 states of each of the eight steps. -/
theorem mask_apply (r : Fin 8) (m : Fin 128) :
    k0_pay1109 (F := Ideal) (iota .tc S8x128 32 [0] iota_S8x128_d0_w32) (ix2 r m) = if m.val / 16 = r.val then 1 else 0 := by
  pointwise [k0_pay1109]
  refine select_of_bit ?_ _ _
  revert r m
  decide +kernel

section tile

variable (v1365 : IVec S8x128 32) (hv : v1365 = iota .tc S8x128 32 [0] iota_S8x128_d0_w32)

/-- A tile's row is the sum over the states of its step's weighted states. -/
theorem ytile_sum (hv : v1365 = iota .tc S8x128 32 [0] iota_S8x128_d0_w32) (X : FVec Ideal S128x128 .f32) (B C : FVec Ideal S16x128 .f32)
    (a : Fin 128 → Vec Ideal S1x16x128 .f32) (h₀ : FVec Ideal S16x128 .f32) (g : Nat) (h : g < 16) (r : Fin 8) (d : Fin 128) :
    ytile v1365 X B C a h₀ g h (ix2 r d) = ∑ n : Fin 16, wt X B C a h₀ (8 * g + r) (by omega) (ix2 n d) := by
  subst hv
  have hc : concatenate S128x128 0 [⟨S16x128, wt X B C a h₀ (8 * g) (by omega)⟩, ⟨S16x128, wt X B C a h₀ (8 * g + 1) (by omega)⟩,
      ⟨S16x128, wt X B C a h₀ (8 * g + 2) (by omega)⟩, ⟨S16x128, wt X B C a h₀ (8 * g + 3) (by omega)⟩,
      ⟨S16x128, wt X B C a h₀ (8 * g + 4) (by omega)⟩, ⟨S16x128, wt X B C a h₀ (8 * g + 5) (by omega)⟩,
      ⟨S16x128, wt X B C a h₀ (8 * g + 6) (by omega)⟩, ⟨S16x128, wt X B C a h₀ (8 * g + 7) (by omega)⟩]
      concatenates_S16x128_S16x128_S16x128_S16x128_S16x128_S16x128_S16x128_S16x128_S128x128_d0
      = concatenate S128x128 0 (List.ofFn fun q : Fin 8 => (⟨S16x128, wt X B C a h₀ (8 * g + q) (by omega)⟩ : (s : Shape) × (s.Idx → Ideal .bf16)))
        concatenates_S16x128_S16x128_S16x128_S16x128_S16x128_S16x128_S16x128_S16x128_S128x128_d0 := rfl
  have hp : ∀ (q : Fin 8) (n : Fin 16), concatenate S128x128 0 (List.ofFn fun q : Fin 8 => (⟨S16x128, wt X B C a h₀ (8 * g + q) (by omega)⟩ : (s : Shape) × (s.Idx → Ideal .bf16)))
        concatenates_S16x128_S16x128_S16x128_S16x128_S16x128_S16x128_S16x128_S16x128_S128x128_d0 (ix2 ⟨q * 16 + n, by omega⟩ d)
      = wt X B C a h₀ (8 * g + q) (by omega) (ix2 n d) := fun q n =>
    concatenate_ofFn_apply (t := S128x128) (s₁ := S16x128) 0 (fun q : Fin 8 => wt X B C a h₀ (8 * g + q) (by omega)) _ rfl 16 rfl _ q
      (by show (q.val * 16 + n.val) / 16 = q.val; omega) (ix2 n d) (by show n.val = (q.val * 16 + n.val) % 16; omega)
      (fun b hb => match b with
        | ⟨0, _⟩ => absurd rfl hb
        | ⟨1, _⟩ => rfl)
  unfold ytile
  rw [hc]
  generalize concatenate S128x128 0 (List.ofFn fun q : Fin 8 => (⟨S16x128, wt X B C a h₀ (8 * g + q) (by omega)⟩ : (s : Shape) × (s.Idx → Ideal .bf16)))
        concatenates_S16x128_S16x128_S16x128_S16x128_S16x128_S16x128_S16x128_S16x128_S128x128_d0 = W at hp
  pointwise
  rw [Fin.sum_univ_tiles 8 16 rfl]
  rw [Finset.sum_eq_single r]
  · refine Finset.sum_congr rfl fun n _ => ?_
    rw [mask_apply, if_pos (by show (r.val * 16 + n.val) / 16 = r.val; omega), one_mul, hp]
  · intro q _ hq
    refine Finset.sum_eq_zero fun n _ => ?_
    rw [mask_apply, if_neg (by show ¬ (q.val * 16 + n.val) / 16 = r.val; intro e; exact hq (Fin.ext (by omega))), zero_mul]
  · intro hr; exact absurd (Finset.mem_univ r) hr

end tile

section contents

variable (A : FVec Ideal S16x128 .f32) (arg12 : Memref sig .tc .vmem S2x4096x128 .f32)
  (arg13 : Memref sig .tc .vmem S2x4096x128 .f32) (arg14 : Memref sig .tc .vmem S2x32x4096 .f32)
  (arg15 : Memref sig .tc .vmem S2x2048x128 .f32)
  (X12 : BufTy.Contents (Elt Ideal) arg12.view.ty) (X13 : BufTy.Contents (Elt Ideal) arg13.view.ty)
  (X14 : BufTy.Contents (Elt Ideal) arg14.view.ty) (k : Fin k0_t1_loop.trips)

theorem trip_lt (k : Fin k0_t1_loop.trips) : k.val < 32 := Nat.lt_of_lt_of_le k.isLt k0_t1_abs.2.1

theorem idx3_ext {n0 n1 n2 : Nat} {x y : (⟨3, ![n0, n1, n2]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

theorem idx2_ext {n0 n1 : Nat} {x y : (⟨2, ![n0, n1]⟩ : Shape).Idx} (h0 : (x 0).val = (y 0).val) (h1 : (x 1).val = (y 1).val) : x = y := by
  funext a
  match a with
  | ⟨0, _⟩ => exact Fin.ext h0
  | ⟨1, _⟩ => exact Fin.ext h1

theorem unit_idx_val {S : Shape} (off sz : Fin S.rank → Nat) (inb) (j : (Rect.unit off sz inb).shape.Idx) (a : Fin S.rank) :
    ((Rect.unit off sz inb).toLoadRect.idx j a : Nat) = off a + j a := by
  show off a + 1 * (j a : Nat) = _; omega

theorem cast128_apply (V : Vec Ideal S1x128x128 .f32) (j d : Fin 128) :
    shapeCast S128x128 V shapeCasts_S1x128x128_S128x128 (ix2 j d) = V (ix3 0 j d) := by pointwise

theorem cast16_apply (V : Vec Ideal S1x16x128 .f32) (n : Fin 16) (j : Fin 128) :
    shapeCast S16x128 V shapeCasts_S1x16x128_S16x128 (ix2 n j) = V (ix3 0 n j) := by pointwise

theorem blk128 (M : Memref sig .tc .vmem S2x4096x128 .f32) (X : BufTy.Contents (Elt Ideal) M.view.ty) (s : Fin 2)
    {off : Fin 3 → Nat} (h : off = ![s.val, 128 * k.val, 0]) (inb : ∀ a, off a + S1x128x128.size a ≤ S2x4096x128.size a) (j d : Fin 128) :
    shapeCast S128x128 (M.view.readAt (Elt Ideal) (Rect.unit (s := S2x4096x128) off S1x128x128.size inb).toLoadRect X) shapeCasts_S1x128x128_S128x128 (ix2 j d)
      = M.view.read (Elt Ideal) X (ix3 s ⟨128 * k + j, by have := trip_lt k; omega⟩ d) := by
  subst h
  refine (cast128_apply _ j d).trans ?_
  refine (View.readAt_apply _ _ _).trans (congrArg (M.view.read (Elt Ideal) X) (idx3_ext ?_ ?_ ?_))
  · exact unit_idx_val _ _ _ _ 0
  · exact unit_idx_val _ _ _ _ 1
  · exact (unit_idx_val _ _ _ _ 2).trans (Nat.zero_add _)

theorem blk16 (M : Memref sig .tc .vmem S2x32x4096 .f32) (X : BufTy.Contents (Elt Ideal) M.view.ty) (s : Fin 2) (b : Nat) (hb : b ≤ 16)
    {off : Fin 3 → Nat} (h : off = ![s.val, b, 128 * k.val]) (inb : ∀ a, off a + S1x16x128.size a ≤ S2x32x4096.size a) (n : Fin 16) (j : Fin 128) :
    shapeCast S16x128 (M.view.readAt (Elt Ideal) (Rect.unit (s := S2x32x4096) off S1x16x128.size inb).toLoadRect X) shapeCasts_S1x16x128_S16x128 (ix2 n j)
      = M.view.read (Elt Ideal) X (ix3 s ⟨b + n, by omega⟩ ⟨128 * k + j, by have := trip_lt k; omega⟩) := by
  subst h
  refine (cast16_apply _ n j).trans ?_
  refine (View.readAt_apply _ _ _).trans (congrArg (M.view.read (Elt Ideal) X) (idx3_ext ?_ ?_ ?_))
  · exact unit_idx_val _ _ _ _ 0
  · exact unit_idx_val _ _ _ _ 1
  · exact unit_idx_val _ _ _ _ 2

theorem dl0_apply (j d : Fin 128) : trip_k0_t1.sl.r arg12 X12 k (ix2 j d)
    = arg12.view.read (Elt Ideal) X12 (ix3 0 ⟨128 * k + j, by have := trip_lt k; omega⟩ d) :=
  blk128 k arg12 X12 0 (k0_off1_eq k) _ j d

theorem dl1_apply (j d : Fin 128) : trip_k0_t1.sl.r_1 arg12 X12 k (ix2 j d)
    = arg12.view.read (Elt Ideal) X12 (ix3 1 ⟨128 * k + j, by have := trip_lt k; omega⟩ d) :=
  blk128 k arg12 X12 1 (k0_off2_eq k) _ j d

theorem dl_apply (s : Fin 2) (j d : Fin 128) :
    (if s.val = 0 then trip_k0_t1.sl.r arg12 X12 k else trip_k0_t1.sl.r_1 arg12 X12 k) (ix2 j d)
      = arg12.view.read (Elt Ideal) X12 (ix3 s ⟨128 * k + j, by have := trip_lt k; omega⟩ d) := by
  rcases Fin.eq_zero_or_eq_succ s with rfl | ⟨z, rfl⟩
  · rw [if_pos (show (0 : Fin 2).val = 0 from rfl)]; exact dl0_apply arg12 X12 k j d
  · obtain rfl : z = 0 := Subsingleton.elim _ _
    rw [if_neg (by decide)]; exact dl1_apply arg12 X12 k j d

theorem dx0_apply (j d : Fin 128) : trip_k0_t1.sl.r_45 arg13 X13 k (ix2 j d)
    = arg13.view.read (Elt Ideal) X13 (ix3 0 ⟨128 * k + j, by have := trip_lt k; omega⟩ d) :=
  blk128 k arg13 X13 0 (k0_off1_eq k) _ j d

theorem dx1_apply (j d : Fin 128) : trip_k0_t1.sl.r_46 arg13 X13 k (ix2 j d)
    = arg13.view.read (Elt Ideal) X13 (ix3 1 ⟨128 * k + j, by have := trip_lt k; omega⟩ d) :=
  blk128 k arg13 X13 1 (k0_off2_eq k) _ j d

theorem b0_apply (n : Fin 16) (j : Fin 128) : trip_k0_t1.sl.r_47 arg14 X14 k (ix2 n j)
    = arg14.view.read (Elt Ideal) X14 (ix3 0 ⟨n, by omega⟩ ⟨128 * k + j, by have := trip_lt k; omega⟩) :=
  (blk16 k arg14 X14 0 0 (by omega) (k0_off3_eq k) _ n j).trans (congrArg _ (idx3_ext rfl (Nat.zero_add _) rfl))

theorem b1_apply (n : Fin 16) (j : Fin 128) : trip_k0_t1.sl.r_48 arg14 X14 k (ix2 n j)
    = arg14.view.read (Elt Ideal) X14 (ix3 1 ⟨n, by omega⟩ ⟨128 * k + j, by have := trip_lt k; omega⟩) :=
  (blk16 k arg14 X14 1 0 (by omega) (k0_off4_eq k) _ n j).trans (congrArg _ (idx3_ext rfl (Nat.zero_add _) rfl))

theorem c0_apply (n : Fin 16) (j : Fin 128) : trip_k0_t1.sl.r_49 arg14 X14 k (ix2 n j)
    = arg14.view.read (Elt Ideal) X14 (ix3 0 ⟨16 + n, by omega⟩ ⟨128 * k + j, by have := trip_lt k; omega⟩) :=
  blk16 k arg14 X14 0 16 (by omega) (k0_off5_eq k) _ n j

theorem c1_apply (n : Fin 16) (j : Fin 128) : trip_k0_t1.sl.r_50 arg14 X14 k (ix2 n j)
    = arg14.view.read (Elt Ideal) X14 (ix3 1 ⟨16 + n, by omega⟩ ⟨128 * k + j, by have := trip_lt k; omega⟩) :=
  blk16 k arg14 X14 1 16 (by omega) (k0_off6_eq k) _ n j

/-- What the decay scratch holds at slot `16 j + n` of stream `s`. -/
def decayAt (D0 D1 : FVec Ideal S128x128 .f32) (y : S2x2048x128.Idx) : EReal :=
  Ideal.exp (A (ix2 ⟨(y 1).val % 16, Nat.mod_lt _ (by decide)⟩ (y 2))
    * (if (y 0).val = 0 then D0 else D1) (ix2 ⟨(y 1).val / 16, by have h : (y 1).val < 2048 := (y 1).isLt; omega⟩ (y 2)))

theorem decayAt_emb (D0 D1 D : FVec Ideal S128x128 .f32) (s j : Nat) (hs : s < 2) (hj : j < 128) (hD : (if s = 0 then D0 else D1) = D)
    (x : (slot s j hs hj).shape.Idx) : decay A D j hj x = decayAt A D0 D1 ((slot s j hs hj).emb x) := by
  obtain ⟨z, n, d, rfl⟩ : ∃ (z : Fin 1) (n : Fin 16) (d : Fin 128), x = (ix3 z n d : S1x16x128.Idx) := ⟨x 0, x 1, x 2, eq_ix3 (n0 := 1) (n1 := 16) (n2 := 128) x⟩
  obtain rfl : z = 0 := Subsingleton.elim _ _
  rw [decay_apply]
  unfold decayAt
  have e0 : (((slot s j hs hj).emb (ix3 0 n d)) 0).val = s := by rw [ValueKit.rect_emb_unit_val]; rfl
  have e1 : (((slot s j hs hj).emb (ix3 0 n d)) 1).val = 16 * j + n := by rw [ValueKit.rect_emb_unit_val]; rfl
  have e2 : (((slot s j hs hj).emb (ix3 0 n d)) 2).val = d.val := by rw [ValueKit.rect_emb_unit_val]; exact Nat.zero_add _
  rw [e0, hD]
  congr 2
  · exact congrArg A (idx2_ext (by show n.val = _ % 16; rw [e1]; omega) e2.symm)
  · exact congrArg D (idx2_ext (by show j = _ / 16; rw [e1]; omega) e2.symm)

theorem decays_agree (D0 D1 : FVec Ideal S128x128 .f32) : ∀ (j : Nat) (h : j ≤ 128),
    ∀ p ∈ decays A D0 D1 j h, ∀ x : p.1.shape.Idx, p.2 x = decayAt A D0 D1 (p.1.emb x)
  | 0, _, p, hp => absurd hp List.not_mem_nil
  | j + 1, h, p, hp => by
    rcases List.mem_cons.mp hp with rfl | hp
    · exact decayAt_emb A D0 D1 D1 1 j (by omega) h rfl
    rcases List.mem_cons.mp hp with rfl | hp
    · exact decayAt_emb A D0 D1 D0 0 j (by omega) h rfl
    exact decays_agree D0 D1 j _ p hp

theorem decays_mem (D0 D1 : FVec Ideal S128x128 .f32) (s i : Nat) (hs : s < 2) (hi : i < 128) : ∀ (j : Nat) (h : j ≤ 128), i < j →
    ∃ p ∈ decays A D0 D1 j h, p.1 = slot s i hs hi
  | 0, _, h => absurd h (Nat.not_lt_zero _)
  | j + 1, h, hij => by
    by_cases e : i = j
    · subst e
      match s, hs with
      | 0, _ => exact ⟨_, List.mem_cons_of_mem _ List.mem_cons_self, rfl⟩
      | 1, _ => exact ⟨_, List.mem_cons_self, rfl⟩
    · obtain ⟨p, hp, e'⟩ := decays_mem D0 D1 s i hs hi j (Nat.le_of_succ_le h) (by omega)
      exact ⟨p, List.mem_cons_of_mem _ (List.mem_cons_of_mem _ hp), e'⟩

theorem loaded_apply (s : Fin 2) (j : Fin 128) (n : Fin 16) (d : Fin 128) :
    loaded arg12 arg15 A X12 k s s.isLt j (ix3 0 n d)
      = Ideal.exp (A (ix2 n d) * arg12.view.read (Elt Ideal) X12 (ix3 s ⟨128 * k + j, by have := trip_lt k; omega⟩ d)) := by
  have hc : loaded arg12 arg15 A X12 k s s.isLt j (ix3 0 n d)
      = decayAt A (trip_k0_t1.sl.r arg12 X12 k) (trip_k0_t1.sl.r_1 arg12 X12 k) ((slot s j s.isLt j.isLt).emb (ix3 0 n d)) := by
    unfold loaded
    rw [View.readCov_eq_canon']
    refine View.canon_apply_of_pieces _ _ (decays_agree A _ _ 128 (Nat.le_refl _)) _ ?_
    obtain ⟨p, hp, e⟩ := decays_mem A (trip_k0_t1.sl.r arg12 X12 k) (trip_k0_t1.sl.r_1 arg12 X12 k) s j s.isLt j.isLt 128 (Nat.le_refl _) j.isLt
    refine ⟨p, hp, ?_⟩
    rw [e]
    exact (slot s j s.isLt j.isLt).idx_mem _
  rw [hc]
  exact (decayAt_emb A _ _ _ s j s.isLt j.isLt rfl (ix3 0 n d)).symm.trans
    ((decay_apply _ _ _ _ n d).trans (congrArg (fun z => Ideal.exp (A (ix2 n d) * z)) (dl_apply arg12 X12 k s j d)))

/-- What the output columns of the scan hold: stream `c / 128`, channel `c % 128`. -/
def yAt (dl dx : S2x4096x128.Idx → EReal) (bc : S2x32x4096.Idx → EReal) (y : S4096x256.Idx) : EReal :=
  yval A dl dx bc ⟨(y 1).val / 128, by have h : (y 1).val < 256 := (y 1).isLt; omega⟩ (y 0) ⟨(y 1).val % 128, Nat.mod_lt _ (by decide)⟩

section loop

variable (v1365 : IVec S8x128 32) (hv : v1365 = iota .tc S8x128 32 [0] iota_S8x128_d0_w32)
  (dl dx : S2x4096x128.Idx → EReal) (bc : S2x32x4096.Idx → EReal)

theorem ytile_apply (hv : v1365 = iota .tc S8x128 32 [0] iota_S8x128_d0_w32) (s : Fin 2) (X : FVec Ideal S128x128 .f32) (B C : FVec Ideal S16x128 .f32)
    (a : Fin 128 → Vec Ideal S1x16x128 .f32) (h₀ : FVec Ideal S16x128 .f32)
    (hs' : ∀ (j : Nat) (h : j ≤ 128) (n : Fin 16) (d : Fin 128), hs X B a h₀ j h (ix2 n d) = hseq A dl dx bc s n d (128 * k.val + j))
    (hC : ∀ (n : Fin 16) (j : Fin 128), C (ix2 n j) = bc (ix3 s ⟨16 + n, by omega⟩ ⟨128 * k + j, by have := trip_lt k; omega⟩))
    (g : Nat) (h : g < 16) (off : Fin 2 → Nat) (e : off = ![128 * k.val + 8 * g, 128 * s.val])
    (inb : ∀ a, off a + S8x128.size a ≤ S4096x256.size a) (x : (Rect.unit (s := S4096x256) off S8x128.size inb).shape.Idx) :
    ytile v1365 X B C a h₀ g h x = yAt A dl dx bc ((Rect.unit (s := S4096x256) off S8x128.size inb).emb x) := by
  subst e
  obtain ⟨r, d, rfl⟩ : ∃ (r : Fin 8) (d : Fin 128), x = (ix2 r d : S8x128.Idx) := ⟨x 0, x 1, eq_ix2 (n0 := 8) (n1 := 128) x⟩
  refine (ytile_sum v1365 hv X B C a h₀ g h r d).trans ?_
  have hk := trip_lt k
  have e0 : (((Rect.unit (s := S4096x256) ![128 * k.val + 8 * g, 128 * s.val] S8x128.size inb).emb (ix2 r d)) 0).val = 128 * k.val + (8 * g + r.val) :=
    (ValueKit.rect_emb_unit_val _ _ _ _ 0).trans (Nat.add_assoc _ _ _)
  have e1 : (((Rect.unit (s := S4096x256) ![128 * k.val + 8 * g, 128 * s.val] S8x128.size inb).emb (ix2 r d)) 1).val = 128 * s.val + d.val :=
    ValueKit.rect_emb_unit_val _ _ _ _ 1
  unfold yAt yval
  refine Finset.sum_congr rfl fun n _ => ?_
  refine (wt_apply A dl dx bc s ⟨k.val, hk⟩ X B C a h₀ hs' hC (8 * g + r) (by omega) n d).trans ?_
  congr 1
  · congr 1
    · exact Fin.ext (by show s.val = _ / 128; rw [e1]; omega)
    · exact Fin.ext (by show d.val = _ % 128; rw [e1]; omega)
    · rw [e0]
  · refine congrArg bc (idx3_ext ?_ rfl ?_)
    · show s.val = _ / 128; rw [e1]; omega
    · exact e0.symm

theorem ytiles_agree (X0 X1 : FVec Ideal S128x128 .f32) (B0 C0 B1 C1 : FVec Ideal S16x128 .f32) (a0 a1 : Fin 128 → Vec Ideal S1x16x128 .f32)
    (h₀ h₁ : FVec Ideal S16x128 .f32) (Y : S4096x256.Idx → EReal)
    (H0 : ∀ (g : Nat) (h : g < 16) (off : Fin 2 → Nat) (e : off = ![128 * k.val + 8 * g, 0])
      (inb : ∀ a, off a + S8x128.size a ≤ S4096x256.size a) (x : (Rect.unit (s := S4096x256) off S8x128.size inb).shape.Idx),
      ytile v1365 X0 B0 C0 a0 h₀ g h x = Y ((Rect.unit (s := S4096x256) off S8x128.size inb).emb x))
    (H1 : ∀ (g : Nat) (h : g < 16) (off : Fin 2 → Nat) (e : off = ![128 * k.val + 8 * g, 128])
      (inb : ∀ a, off a + S8x128.size a ≤ S4096x256.size a) (x : (Rect.unit (s := S4096x256) off S8x128.size inb).shape.Idx),
      ytile v1365 X1 B1 C1 a1 h₁ g h x = Y ((Rect.unit (s := S4096x256) off S8x128.size inb).emb x)) :
    ∀ (g : Nat) (h : g ≤ 16), ∀ p ∈ ytiles v1365 k X0 X1 B0 C0 B1 C1 a0 a1 h₀ h₁ g h, ∀ x : p.1.shape.Idx, p.2 x = Y (p.1.emb x)
  | 0, _, p, hp => absurd hp List.not_mem_nil
  | g + 1, h, p, hp => by
    rcases List.mem_cons.mp hp with rfl | hp
    · exact H1 g h _ (k0_off8_eq k ⟨g, h⟩) (k0_off8_inb k ⟨g, h⟩)
    rcases List.mem_cons.mp hp with rfl | hp
    · exact H0 g h _ (k0_off7_eq k ⟨g, h⟩) (k0_off7_inb k ⟨g, h⟩)
    exact ytiles_agree X0 X1 B0 C0 B1 C1 a0 a1 h₀ h₁ Y H0 H1 g _ p hp

theorem mem_tile (t g : Nat) (ht : 8 * g ≤ t ∧ t < 8 * g + 8) (c b : Nat) (hc : b ≤ c ∧ c < b + 128) (off : Fin 2 → Nat)
    (e : off = ![128 * k.val + 8 * g, b]) (inb : ∀ a, off a + S8x128.size a ≤ S4096x256.size a) (y : S4096x256.Idx)
    (h0 : (y 0).val = 128 * k.val + t) (h1 : (y 1).val = c) : y ∈ (Rect.unit (s := S4096x256) off S8x128.size inb).set := by
  subst e
  rw [Rect.mem_set_unit]
  intro a
  match a with
  | ⟨0, _⟩ => exact (by omega : 128 * k.val + 8 * g ≤ (y 0).val ∧ (y 0).val < 128 * k.val + 8 * g + 8)
  | ⟨1, _⟩ => exact (by omega : b ≤ (y 1).val ∧ (y 1).val < b + 128)

theorem ytiles_mem (X0 X1 : FVec Ideal S128x128 .f32) (B0 C0 B1 C1 : FVec Ideal S16x128 .f32) (a0 a1 : Fin 128 → Vec Ideal S1x16x128 .f32)
    (h₀ h₁ : FVec Ideal S16x128 .f32) (y : S4096x256.Idx) (t : Nat) (h0 : (y 0).val = 128 * k.val + t) :
    ∀ (g : Nat) (h : g ≤ 16), t < 8 * g → ∃ p ∈ ytiles v1365 k X0 X1 B0 C0 B1 C1 a0 a1 h₀ h₁ g h, y ∈ p.1.set
  | 0, _, ht => absurd ht (Nat.not_lt_zero _)
  | g + 1, h, ht => by
    by_cases hg : 8 * g ≤ t
    · have hc : (y 1).val < 256 := (y 1).isLt
      by_cases hlt : (y 1).val < 128
      · exact ⟨_, List.mem_cons_of_mem _ List.mem_cons_self,
          mem_tile k t g (by omega) _ 0 (by omega) _ (k0_off7_eq k ⟨g, h⟩) (k0_off7_inb k ⟨g, h⟩) y h0 rfl⟩
      · exact ⟨_, List.mem_cons_self, mem_tile k t g (by omega) _ 128 (by omega) _ (k0_off8_eq k ⟨g, h⟩) (k0_off8_inb k ⟨g, h⟩) y h0 rfl⟩
    · obtain ⟨p, hp, hy⟩ := ytiles_mem X0 X1 B0 C0 B1 C1 a0 a1 h₀ h₁ y t h0 g (Nat.le_of_succ_le h) (by omega)
      exact ⟨p, List.mem_cons_of_mem _ (List.mem_cons_of_mem _ hp), hy⟩

end loop

/-- THE SCAN: before trip `K` the carried states are the recurrence after `128 K` steps, the stored tiles hold its
    outputs, and they cover the rows below `128 K`. -/
theorem st_apply (v1365 : IVec S8x128 32) (hv : v1365 = iota .tc S8x128 32 [0] iota_S8x128_d0_w32) :
    ∀ K : Nat, K ≤ k0_t1_loop.trips →
      (∀ (n : Fin 16) (d : Fin 128), (st_k0_t1 arg12 arg13 arg14 arg15 A v1365 X12 X13 X14 (k0_pay1110, k0_pay1110) K).1.1 (ix2 n d)
        = hseq A (arg12.view.read (Elt Ideal) X12) (arg13.view.read (Elt Ideal) X13) (arg14.view.read (Elt Ideal) X14) 0 n d (128 * K))
      ∧ (∀ (n : Fin 16) (d : Fin 128), (st_k0_t1 arg12 arg13 arg14 arg15 A v1365 X12 X13 X14 (k0_pay1110, k0_pay1110) K).1.2 (ix2 n d)
        = hseq A (arg12.view.read (Elt Ideal) X12) (arg13.view.read (Elt Ideal) X13) (arg14.view.read (Elt Ideal) X14) 1 n d (128 * K))
      ∧ (∀ p ∈ (st_k0_t1 arg12 arg13 arg14 arg15 A v1365 X12 X13 X14 (k0_pay1110, k0_pay1110) K).2.1, ∀ x : p.1.shape.Idx,
        p.2 x = yAt A (arg12.view.read (Elt Ideal) X12) (arg13.view.read (Elt Ideal) X13) (arg14.view.read (Elt Ideal) X14) (p.1.emb x))
      ∧ (∀ y : S4096x256.Idx, (y 0).val < 128 * K →
        ∃ p ∈ (st_k0_t1 arg12 arg13 arg14 arg15 A v1365 X12 X13 X14 (k0_pay1110, k0_pay1110) K).2.1, y ∈ p.1.set)
  | 0, _ => ⟨fun n d => zero_apply n d, fun n d => zero_apply n d, fun p hp => absurd hp List.not_mem_nil,
      fun y h => absurd h (Nat.not_lt_zero _)⟩
  | K + 1, hK => by
    obtain ⟨ih0, ih1, ihp, ihm⟩ := st_apply v1365 hv K (Nat.le_of_succ_le hK)
    have e := st_k0_t1_succ arg12 arg13 arg14 arg15 A v1365 X12 X13 X14 (k0_pay1110, k0_pay1110) ⟨K, hK⟩
    change st_k0_t1 arg12 arg13 arg14 arg15 A v1365 X12 X13 X14 (k0_pay1110, k0_pay1110) (K + 1) = _ at e
    rw [e]
    generalize (st_k0_t1 arg12 arg13 arg14 arg15 A v1365 X12 X13 X14 (k0_pay1110, k0_pay1110) (⟨K, hK⟩ : Fin k0_t1_loop.trips).val) = S at *
    set_option maxRecDepth 4000 in
    have h0 := hs_apply A (arg12.view.read (Elt Ideal) X12) (arg13.view.read (Elt Ideal) X13) (arg14.view.read (Elt Ideal) X14) 0
      ⟨K, trip_lt ⟨K, hK⟩⟩ (trip_k0_t1.sl.r_45 arg13 X13 ⟨K, hK⟩) (trip_k0_t1.sl.r_47 arg14 X14 ⟨K, hK⟩)
      (loaded arg12 arg15 A X12 ⟨K, hK⟩ 0 (by omega)) S.1.1 (dx0_apply arg13 X13 _) (b0_apply arg14 X14 _)
      (loaded_apply A arg12 arg15 X12 ⟨K, hK⟩ 0) ih0
    have h1 := hs_apply A (arg12.view.read (Elt Ideal) X12) (arg13.view.read (Elt Ideal) X13) (arg14.view.read (Elt Ideal) X14) 1
      ⟨K, trip_lt ⟨K, hK⟩⟩ (trip_k0_t1.sl.r_46 arg13 X13 ⟨K, hK⟩) (trip_k0_t1.sl.r_48 arg14 X14 ⟨K, hK⟩)
      (loaded arg12 arg15 A X12 ⟨K, hK⟩ 1 (by omega)) S.1.2 (dx1_apply arg13 X13 _) (b1_apply arg14 X14 _)
      (loaded_apply A arg12 arg15 X12 ⟨K, hK⟩ 1) ih1
    refine ⟨fun n d => h0 128 (Nat.le_refl _) n d, fun n d => h1 128 (Nat.le_refl _) n d, ?_, ?_⟩
    · intro p hp
      rcases List.mem_append.mp hp with hp | hp
      · exact ytiles_agree ⟨K, hK⟩ v1365 _ _ _ _ _ _ _ _ _ _ _
          (fun g h off e => ytile_apply A ⟨K, hK⟩ v1365 _ _ _ hv 0 _ _ _ _ _ h0 (c0_apply arg14 X14 _) g h off e)
          (fun g h off e => ytile_apply A ⟨K, hK⟩ v1365 _ _ _ hv 1 _ _ _ _ _ h1 (c1_apply arg14 X14 _) g h off e) 16 (Nat.le_refl _) p hp
      · exact ihp p hp
    · intro y hy
      by_cases hlt : (y 0).val < 128 * K
      · obtain ⟨p, hp, hm⟩ := ihm y hlt
        exact ⟨p, List.mem_append_right _ hp, hm⟩
      · obtain ⟨p, hp, hm⟩ := ytiles_mem ⟨K, hK⟩ v1365 _ _ _ _ _ _ _ _ _ _ y ((y 0).val - 128 * K)
          (by show (y 0).val = 128 * K + _; omega) 16 (Nat.le_refl _) (by omega)
        exact ⟨p, List.mem_append_left _ hp, hm⟩

end contents

end Cert.KernelIdeal.Scan

end
-- ==== Proof.KernelIdealChunk.lean ====
/- The chunk computations of the kernel at the extended reals, read at one element: the input projection, the depthwise
   convolution with its activation, the time step, its product with the input, the two state projections, and the output
   projection. -/
module

public import proofs.«01_k».proof.Proof.KernelIdealScan

@[expose] public section

noncomputable section

namespace Cert.KernelIdeal.Scan

open Idealize.ShloMosaic Idealize.ShloMosaic.TcCoe Cert.KernelIdeal Cert.KernelIdeal.Gen

theorem proj_apply (U : Vec Ideal S1x512x256 .f32) (W : Vec Ideal S256x256 .f32) (r : Fin 512) (c : Fin 256) :
    k0_pay922 U W (ix2 r c) = ∑ k : Fin 256, U (ix3 0 r k) * W (ix2 k c) := by
  pointwise [k0_pay922]

section conv

variable {F : FTy → Type} [FloatOps F]

/-- The three-tap convolution of a chunk of 512 rows, between the row above and the row below it. -/
def convC (w0 w1 w2 p : FVec F S1x128 .f32) (xc : FVec F S512x128 .f32) (q : FVec F S1x128 .f32) : FVec F S512x128 .f32 :=
  addf (addf
    (mulf (broadcastTo S512x128 w0 broadcasts_S1x128_S512x128)
      (concatenate S512x128 0 [⟨S1x128, p⟩, ⟨S511x128, extractStridedSlice S511x128 ![0, 0] xc slices_S512x128_o0_0_S511x128⟩]
        concatenates_S1x128_S511x128_S512x128_d0))
    (mulf (broadcastTo S512x128 w1 broadcasts_S1x128_S512x128) xc))
    (mulf (broadcastTo S512x128 w2 broadcasts_S1x128_S512x128)
      (concatenate S512x128 0 [⟨S511x128, extractStridedSlice S511x128 ![1, 0] xc slices_S512x128_o1_0_S511x128⟩, ⟨S1x128, q⟩]
        concatenates_S511x128_S1x128_S512x128_d0))

/-- The activation of a chunk, as the block it is stored at. -/
def siluC (v : FVec F S512x128 .f32) : FVec F S1x512x128 .f32 :=
  shapeCast S1x512x128 (mulf v (logistic v)) shapeCasts_S512x128_S1x512x128

end conv

theorem conv_apply (w0 w1 w2 p : FVec Ideal S1x128 .f32) (xc : FVec Ideal S512x128 .f32) (q : FVec Ideal S1x128 .f32)
    (r : Fin 512) (d : Fin 128) :
    convC w0 w1 w2 p xc q (ix2 r d)
      = (w0 (ix2 0 d) * (if h : r.val < 1 then p (ix2 0 d) else xc (ix2 ⟨r - 1, by omega⟩ d)) + w1 (ix2 0 d) * xc (ix2 r d))
        + w2 (ix2 0 d) * (if h : r.val < 511 then xc (ix2 ⟨r + 1, by omega⟩ d) else q (ix2 0 d)) := by
  have e0 : ∀ h : r.val < 1, (⟨r.val, h⟩ : Fin 1) = 0 := fun h => Subsingleton.elim _ _
  pointwise [convC]
  congr 2
  · split
    · rw [e0]
    · rfl
  · split
    · exact congrArg xc (idx2_ext (Nat.add_comm _ _) rfl)
    · exact congrArg q (idx2_ext (Nat.sub_eq_zero_of_le (by omega)) rfl)

theorem silu_apply (v : FVec Ideal S512x128 .f32) (r : Fin 512) (d : Fin 128) :
    siluC v (ix3 0 r d) = v (ix2 r d) * Ideal.logistic (v (ix2 r d)) := by
  pointwise [siluC]

theorem dp_apply (b : FVec Ideal S1x128 .f32) (U : Vec Ideal S1x512x128 .f32) (W : Vec Ideal S128x128 .f32) (r : Fin 512) (d : Fin 128) :
    k0_pay960 b U W (ix2 r d) = (∑ k : Fin 128, U (ix3 0 r k) * W (ix2 k d)) + b (ix2 0 d) := by
  pointwise [k0_pay960, k0_pay959]

section

variable {F : FTy → Type} [FloatOps F]

/-- The time step of a chunk: the softplus of its pre-activation, cut at 20. -/
def dlC (b : FVec F S1x128 .f32) (U : Vec F S1x512x128 .f32) (W : Vec F S128x128 .f32) : FVec F S512x128 .f32 :=
  k0_pay963 (k0_pay960 b U W) (k0_pay961 b U W) (k0_pay962 b U W) (Scalar.ofBits .f32 0x3F800000#32)

end

/-- The cut of the time step. -/
theorem twenty : Ideal.ofBits .f32 0x41A00000#32 = 20 := by
  rw [show (20 : EReal) = ((20 : ℝ) : EReal) by norm_cast]
  simp [Ideal.ofBits, Ideal.ieee, -EReal.coe_mul]; norm_num

/-- The time step from its pre-activation. -/
def softcut (x : EReal) : EReal := if 20 < x then x else Ideal.log (1 + Ideal.exp (min x 20))

theorem dl_chunk_apply (b : FVec Ideal S1x128 .f32) (U : Vec Ideal S1x512x128 .f32) (W : Vec Ideal S128x128 .f32) (r : Fin 512) (d : Fin 128) :
    dlC b U W (ix2 r d) = softcut ((∑ k : Fin 128, U (ix3 0 r k) * W (ix2 k d)) + b (ix2 0 d)) := by
  rw [← dp_apply]
  unfold dlC k0_pay961 k0_pay962
  generalize k0_pay960 b U W = X
  pointwise [k0_pay963, softcut]
  rw [twenty]

theorem bc_apply (U : Vec Ideal S1x512x128 .f32) (W : Vec Ideal S32x128 .f32) (n : Fin 32) (r : Fin 512) :
    k0_pay966 (k0_pay959 U) W (ix3 0 n r) = ∑ k : Fin 128, W (ix2 n k) * U (ix3 0 r k) := by
  pointwise [k0_pay966, k0_pay959]

theorem out_apply (D : FVec Ideal S1x128 .f32) (y : Vec Ideal S512x128 .f32) (xf zf : Vec Ideal S1x512x128 .f32) (W : Vec Ideal S256x256 .f32)
    (r : Fin 512) (c : Fin 256) :
    k0_pay1119 D y xf zf W (ix3 0 r c)
      = ∑ k : Fin 256, (if h : k.val < 128 then y (ix2 r ⟨k, h⟩) + xf (ix3 0 r ⟨k, h⟩) * D (ix2 0 ⟨k, h⟩)
          else zf (ix3 0 r ⟨k - 128, by omega⟩)) * W (ix2 k c) := by
  pointwise [k0_pay1119]

end Cert.KernelIdeal.Scan

end
-- ==== Proof.Model.lean ====
/- The mixer of one sequence as functions of its indices, with no program: the projection, the depthwise convolution and its
   activation, the selective recurrence and the output projection, of a sequence, the weights and the time step. Two time steps,
   `dlK` and `dlR`, and that they are the same where the operands are finite and no pre-activation exceeds 20. -/
module

public import proofs.«01_k».proof.Proof.KernelIdealChunk

@[expose] public section

noncomputable section

namespace Cert.Model

open Idealize.ShloMosaic

/-- The weights, by their indices. -/
structure Weights where
  /-- The input projection. -/
  W : Fin 256 → Fin 256 → EReal
  /-- The taps of the convolution of the half `x`. -/
  cx : Fin 128 → Fin 3 → EReal
  /-- The taps of the convolution of the half `z`. -/
  cz : Fin 128 → Fin 3 → EReal
  /-- The projection to the rank of the time step and to the two state vectors. -/
  xp : Fin 48 → Fin 128 → EReal
  /-- The projection of the time step. -/
  dw : Fin 128 → Fin 16 → EReal
  /-- Its bias. -/
  db : Fin 128 → EReal
  /-- The logarithm of the decay. -/
  al : Fin 128 → Fin 16 → EReal
  /-- The skip. -/
  D : Fin 128 → EReal
  /-- The output projection. -/
  ow : Fin 256 → Fin 256 → EReal

variable (p : Weights) (u : Fin 4096 → Fin 256 → EReal)

/-- The input projection of a sequence. -/
def proj (t : Fin 4096) (c : Fin 256) : EReal := ∑ k : Fin 256, u t k * p.W c k

/-- A channel of the first half, and of the second. -/
def chX (d : Fin 128) : Fin 256 := ⟨d, by omega⟩
def chZ (d : Fin 128) : Fin 256 := ⟨128 + d, by omega⟩

/-- The depthwise convolution over time, zero beyond the ends. -/
def conv (w : Fin 128 → Fin 3 → EReal) (x : Fin 4096 → Fin 128 → EReal) (t : Fin 4096) (d : Fin 128) : EReal :=
  (w d 0 * (if h : 0 < t.val then x ⟨t - 1, by omega⟩ d else 0) + w d 1 * x t d)
    + w d 2 * (if h : t.val < 4095 then x ⟨t + 1, by omega⟩ d else 0)

def silu (x : EReal) : EReal := x * Ideal.logistic x

def xf (t : Fin 4096) (d : Fin 128) : EReal := silu (conv p.cx (fun t d => proj p u t (chX d)) t d)
def zf (t : Fin 4096) (d : Fin 128) : EReal := silu (conv p.cz (fun t d => proj p u t (chZ d)) t d)

/-- The two state vectors of a time. -/
def B (t : Fin 4096) (n : Fin 16) : EReal := ∑ k : Fin 128, xf p u t k * p.xp ⟨16 + n, by omega⟩ k
def C (t : Fin 4096) (n : Fin 16) : EReal := ∑ k : Fin 128, xf p u t k * p.xp ⟨32 + n, by omega⟩ k

def A (d : Fin 128) (n : Fin 16) : EReal := -Ideal.exp (p.al d n)

variable (dl : Fin 4096 → Fin 128 → EReal)

/-- The recurrence: the state before time `t`. -/
def h (d : Fin 128) (n : Fin 16) : ℕ → EReal
  | 0 => 0
  | t + 1 => if ht : t < 4096 then
      Ideal.exp (dl ⟨t, ht⟩ d * A p d n) * h d n t + (dl ⟨t, ht⟩ d * xf p u ⟨t, ht⟩ d) * B p u ⟨t, ht⟩ n
    else 0

/-- Its output. -/
def y (t : Fin 4096) (d : Fin 128) : EReal := (∑ n : Fin 16, h p u dl d n (t + 1) * C p u t n) + xf p u t d * p.D d

/-- The mixer. -/
def out (t : Fin 4096) (o : Fin 256) : EReal :=
  ∑ k : Fin 256, (if hk : k.val < 128 then y p u dl t ⟨k, hk⟩ else zf p u t ⟨k - 128, by omega⟩) * p.ow o k

/-! ## The time step -/

/-- The pre-activation, through the product of the two projections, and one after the other. -/
def preK (t : Fin 4096) (d : Fin 128) : EReal :=
  (∑ k : Fin 128, xf p u t k * ∑ j : Fin 16, p.xp ⟨j, by omega⟩ k * p.dw d j) + p.db d
def preR (t : Fin 4096) (d : Fin 128) : EReal :=
  (∑ j : Fin 16, (∑ k : Fin 128, xf p u t k * p.xp ⟨j, by omega⟩ k) * p.dw d j) + p.db d

/-- The reference's softplus. -/
def softplus (x : EReal) : EReal := max x 0 + Ideal.log (1 + Ideal.exp (-(max x (-x))))

def dlK (t : Fin 4096) (d : Fin 128) : EReal := KernelIdeal.Scan.softcut (preK p u t d)
def dlR (t : Fin 4096) (d : Fin 128) : EReal := softplus (preR p u t d)

/-- A value that is neither of the infinities. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_zero : Fin' 0 := ⟨0, rfl⟩

theorem fin_sum {ι : Type} (s : Finset ι) {f : ι → EReal} (hf : ∀ i, Fin' (f i)) : Fin' (∑ i ∈ s, f i) := by
  classical
  induction s using Finset.induction_on with
  | empty => simpa using fin_zero
  | insert a s ha ih => rw [Finset.sum_insert ha]; exact fin_add (hf a) ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_logistic {x : EReal} (hx : Fin' x) : Fin' (Ideal.logistic x) := by
  obtain ⟨a, rfl⟩ := hx
  exact ⟨_, Ideal.logistic_coe a⟩

theorem fin_silu {x : EReal} (hx : Fin' x) : Fin' (silu x) := fin_mul hx (fin_logistic hx)

/-- The two orders of the projection agree on finite operands. -/
theorem pre_eq (hxf : ∀ t d, Fin' (xf p u t d)) (hxp : ∀ (j : Fin 16) k, Fin' (p.xp ⟨j, by omega⟩ k)) (hdw : ∀ d j, Fin' (p.dw d j)) (t : Fin 4096)
    (d : Fin 128) : preK p u t d = preR p u t d := by
  unfold preK preR
  choose a ha using hxf
  choose b hb using hxp
  choose c hc using hdw
  simp only [ha, hb, hc]
  simp only [← EReal.coe_mul, ← coe_sum]
  congr 2
  simp only [Finset.mul_sum, Finset.sum_mul]
  rw [Finset.sum_comm]
  exact Finset.sum_congr rfl fun _ _ => Finset.sum_congr rfl fun _ _ => (mul_assoc _ _ _).symm

theorem log_exp (r : ℝ) : Ideal.log (1 + Ideal.exp (r : EReal)) = (Real.log (1 + Real.exp r) : EReal) := by
  have h : ¬ (1 + Real.exp r ≤ 0) := not_le.2 (by positivity)
  rw [Ideal.exp_coe, ← EReal.coe_one, ← EReal.coe_add, Ideal.log_coe, if_neg h]

/-- Below 20 the kernel's time step is the reference's. -/
theorem soft_eq {x : EReal} (hx : x ≤ 20) : KernelIdeal.Scan.softcut x = softplus x := by
  unfold KernelIdeal.Scan.softcut softplus
  rw [if_neg (not_lt.2 hx), min_eq_left hx]
  induction x with
  | bot => simp
  | top => exact absurd hx (not_le.2 (EReal.coe_lt_top 20))
  | coe r =>
    have hm : max (r : EReal) (-(r : EReal)) = ((max r (-r) : ℝ) : EReal) := by
      rw [← EReal.coe_neg]; exact (EReal.coe_strictMono.monotone.map_max).symm
    have h0 : max (r : EReal) 0 = ((max r 0 : ℝ) : EReal) := by
      rw [← EReal.coe_zero]; exact (EReal.coe_strictMono.monotone.map_max).symm
    rw [hm, h0, ← EReal.coe_neg, log_exp, log_exp, ← EReal.coe_add]
    congr 1
    rcases le_total 0 r with h | h
    · rw [max_eq_left h, max_eq_left (by linarith)]
      have e : 1 + Real.exp r = Real.exp r * (1 + Real.exp (-r)) := by
        rw [mul_add, mul_one, ← Real.exp_add, add_neg_cancel, Real.exp_zero, add_comm]
      rw [e, Real.log_mul (Real.exp_pos _).ne' (by positivity), Real.log_exp]
    · rw [max_eq_right h, max_eq_right (by linarith), neg_neg, zero_add]

theorem fin_conv {w : Fin 128 → Fin 3 → EReal} {x : Fin 4096 → Fin 128 → EReal} (hw : ∀ d j, Fin' (w d j)) (hx : ∀ t d, Fin' (x t d))
    (t : Fin 4096) (d : Fin 128) : Fin' (conv w x t d) := by
  unfold conv
  refine fin_add (fin_add (fin_mul (hw _ _) ?_) (fin_mul (hw _ _) (hx _ _))) (fin_mul (hw _ _) ?_) <;> split
  exacts [hx _ _, fin_zero, hx _ _, fin_zero]

theorem fin_xf (hu : ∀ t k, Fin' (u t k)) (hW : ∀ d k, Fin' (p.W (chX d) k)) (hcx : ∀ d j, Fin' (p.cx d j)) (t : Fin 4096) (d : Fin 128) :
    Fin' (xf p u t d) :=
  fin_silu (fin_conv hcx (fun t d => fin_sum _ fun k => fin_mul (hu _ _) (hW _ _)) t d)

/-- So the two time steps are the same, and the mixers of them. -/
theorem out_eq (hu : ∀ t k, Fin' (u t k)) (hW : ∀ d k, Fin' (p.W (chX d) k)) (hcx : ∀ d j, Fin' (p.cx d j))
    (hxp : ∀ (j : Fin 16) k, Fin' (p.xp ⟨j, by omega⟩ k)) (hdw : ∀ d j, Fin' (p.dw d j)) (hsmall : ∀ t d, preR p u t d ≤ 20) :
    out p u (dlK p u) = out p u (dlR p u) := by
  have e : dlK p u = dlR p u := funext fun t => funext fun d => by
    unfold dlK dlR
    rw [pre_eq p u (fin_xf p u hu hW hcx) hxp hdw, soft_eq (hsmall t d)]
  rw [e]

end Cert.Model

end
-- ==== Proof.RefInputs.lean ====
/- What the program `ReferenceIdeal` hands its loop, at an index, at the extended reals: the factors of the recurrence, of either
   argument's sequences. -/
module

public import proofs.«01_k».proof.Proof.Gen.ReferenceIdeal.Step
public import proofs.«01_k».proof.Proof.Model
public import Idealize.ShloMosaic.Lib.Pointwise

@[expose] public section

noncomputable section

namespace Cert.ReferenceIdeal.Value

open Idealize.ShloMosaic Cert.ReferenceIdeal Cert.ReferenceIdeal.Gen Cert.ReferenceIdeal.Step

/-- The convolution of the program, of an array and its taps. -/
def convE (x : FVec Ideal S4x4096x128 .f32) (w : FVec Ideal S128x1x3 .f32) : FVec Ideal S4x4096x128 .f32 :=
  let xp : FVec Ideal S4x4098x128 .f32 := pad S4x4098x128 ![0, 1, 0] ![0, 1, 0] ![0, 0, 0] x (constant (F := Ideal) S_ .f32 0x00000000#32) pads_S4x4096x128_S4x4098x128_000_110_000 h_S_
  addf (addf
      (mulf (broadcastInDim S4x4096x128 ![0, 1, 2] bcast_S1x1x128_S4x4096x128_0_1_2 (broadcastInDim S1x1x128 ![2] bcast_S128_S1x1x128_2
          (shapeCast S128 (extractStridedSlice S128x1x1 ![0, 0, 0] w slices_S128x1x3_S128x1x1_0_0_0) shapeCasts_S128x1x1_S128)))
        (extractStridedSlice S4x4096x128 ![0, 0, 0] xp slices_S4x4098x128_S4x4096x128_0_0_0))
      (mulf (broadcastInDim S4x4096x128 ![0, 1, 2] bcast_S1x1x128_S4x4096x128_0_1_2 (broadcastInDim S1x1x128 ![2] bcast_S128_S1x1x128_2
          (shapeCast S128 (extractStridedSlice S128x1x1 ![0, 0, 1] w slices_S128x1x3_S128x1x1_0_0_1) shapeCasts_S128x1x1_S128)))
        (extractStridedSlice S4x4096x128 ![0, 1, 0] xp slices_S4x4098x128_S4x4096x128_0_1_0)))
    (mulf (broadcastInDim S4x4096x128 ![0, 1, 2] bcast_S1x1x128_S4x4096x128_0_1_2 (broadcastInDim S1x1x128 ![2] bcast_S128_S1x1x128_2
          (shapeCast S128 (extractStridedSlice S128x1x1 ![0, 0, 2] w slices_S128x1x3_S128x1x1_0_0_2) shapeCasts_S128x1x1_S128)))
        (extractStridedSlice S4x4096x128 ![0, 2, 0] xp slices_S4x4098x128_S4x4096x128_0_2_0))

/-- An array padded by a zero at either end, at an index. -/
theorem pad_apply' (x : FVec Ideal S4x4096x128 .f32) (b : Fin 4) (t : Fin 4098) (d : Fin 128) :
    pad S4x4098x128 ![0, 1, 0] ![0, 1, 0] ![0, 0, 0] x (constant (F := Ideal) S_ .f32 0x00000000#32) pads_S4x4096x128_S4x4098x128_000_110_000 h_S_ (ix3 b t d)
      = if h : 1 ≤ t.val ∧ t.val - 1 < 4096 then x (ix3 b ⟨t - 1, by omega⟩ d) else 0 := by
  pointwise

theorem convE_apply (x : FVec Ideal S4x4096x128 .f32) (w : FVec Ideal S128x1x3 .f32) (b : Fin 4) (t : Fin 4096) (d : Fin 128) :
    convE x w (ix3 b t d) = Model.conv (fun d j => w (ix3 d 0 j)) (fun t d => x (ix3 b t d)) t d := by
  unfold convE Model.conv
  pointwise [pad_apply']
  refine congrArg₂ (· + ·) (congrArg₂ (· + ·) (congrArg₂ (· * ·) rfl ?_) rfl) (congrArg₂ (· * ·) rfl ?_)
  · by_cases h : 0 < t.val
    · rw [dif_pos h, dif_pos ⟨h, by omega⟩]
    · rw [dif_neg h, dif_neg (fun h' => h h'.1)]
  · by_cases h : t.val < 4095
    · rw [dif_pos h, dif_pos ⟨by omega, by omega⟩]
      exact congrArg (fun t' => x (ix3 b t' d)) (Fin.ext (by show 2 + t.val - 1 = t.val + 1; omega))
    · rw [dif_neg h, dif_neg (fun h' => h (by omega))]

/-- The activation of the program. -/
def siluE (v : FVec Ideal S4x4096x128 .f32) : FVec Ideal S4x4096x128 .f32 :=
  mulf v (Host.divf (broadcastInDim S4x4096x128 ![] bcast_S_S4x4096x128 (constant (F := Ideal) S_ .f32 0x3F800000#32))
    (addf (broadcastInDim S4x4096x128 ![] bcast_S_S4x4096x128 (constant (F := Ideal) S_ .f32 0x3F800000#32)) (Host.exp (Host.negf v))))

theorem siluE_apply (v : FVec Ideal S4x4096x128 .f32) (i : S4x4096x128.Idx) : siluE v i = Model.silu (v i) := by
  unfold siluE Model.silu Ideal.logistic
  pointwise

/-- The softplus of the program. -/
def softE (v : FVec Ideal S4x4096x128 .f32) : FVec Ideal S4x4096x128 .f32 :=
  let z : FVec Ideal S4x4096x128 .f32 := broadcastInDim S4x4096x128 ![] bcast_S_S4x4096x128 (constant (F := Ideal) S_ .f32 0x00000000#32)
  select (cmpf .une (subf v z) (subf v z)) (addf v z) (addf (maximumf v z) (Host.log1p (Host.exp (Host.negf (Host.absf (subf v z))))))

theorem softE_apply (v : FVec Ideal S4x4096x128 .f32) (i : S4x4096x128.Idx) : softE v i = Model.softplus (v i) := by
  unfold softE Model.softplus
  pointwise
  rw [if_neg (fun h => h rfl)]; rfl

variable (a0 a1 : FVec Ideal S4x4096x256 .f32) (a2 : FVec Ideal S256x256 .f32) (a3 : FVec Ideal S128x1x3 .f32)
  (a4 : FVec Ideal S128x1x3 .f32) (a5 : FVec Ideal S48x128 .f32) (a6 : FVec Ideal S128x16 .f32) (a7 : FVec Ideal S128 .f32)
  (a8 : FVec Ideal S128x16 .f32) (a9 : FVec Ideal S128 .f32) (a10 : FVec Ideal S256x256 .f32)

/-- The weights, from the argument arrays. -/
def wts : Model.Weights where
  W e k := a2 (ix2 e k)
  cx d j := a3 (ix3 d 0 j)
  cz d j := a4 (ix3 d 0 j)
  xp j k := a5 (ix2 j k)
  dw d j := a6 (ix2 d j)
  db d := a7 (ix1 d)
  al d n := a8 (ix2 d n)
  D d := a9 (ix1 d)
  ow o e := a10 (ix2 o e)

/-- The sequences of an argument. -/
def seq (x : FVec Ideal S4x4096x256 .f32) (b : Fin 4) (t : Fin 4096) (k : Fin 256) : EReal := x (ix3 b t k)

theorem at_v1 (b : Fin 4) (t : Fin 4096) (d : Fin 128) :
    A_main_v1 (F := Ideal) a0 a1 a2 a3 a5 a6 a7 a8 a9 (ix3 b t d) = Model.proj (wts a2 a3 a4 a5 a6 a7 a8 a9 a10) (seq a0 b) t (Model.chX d) := by
  unfold A_main_v1 A_main_v0 Model.proj seq Model.chX wts
  pointwise

theorem at_v22 (b : Fin 4) (t : Fin 4096) (d : Fin 128) :
    A_main_v22 (F := Ideal) a0 a1 a2 a3 a5 a6 a7 a8 a9 (ix3 b t d)
      = Model.conv (wts a2 a3 a4 a5 a6 a7 a8 a9 a10).cx (fun t d => Model.proj (wts a2 a3 a4 a5 a6 a7 a8 a9 a10) (seq a0 b) t (Model.chX d)) t d := by
  have e : A_main_v22 (F := Ideal) a0 a1 a2 a3 a5 a6 a7 a8 a9 = convE (A_main_v1 (F := Ideal) a0 a1 a2 a3 a5 a6 a7 a8 a9) a3 := rfl
  rw [e, convE_apply]
  simp only [at_v1 a0 a1 a2 a3 a4 a5 a6 a7 a8 a9 a10]
  rfl

theorem at_v23 (b : Fin 4) (t : Fin 4096) (d : Fin 128) :
    A_main_v23 (F := Ideal) a0 a1 a2 a3 a5 a6 a7 a8 a9 (ix3 b t d) = Model.xf (wts a2 a3 a4 a5 a6 a7 a8 a9 a10) (seq a0 b) t d := by
  have e : A_main_v23 (F := Ideal) a0 a1 a2 a3 a5 a6 a7 a8 a9 = siluE (A_main_v22 (F := Ideal) a0 a1 a2 a3 a5 a6 a7 a8 a9) := rfl
  rw [e, siluE_apply, at_v22 a0 a1 a2 a3 a4 a5 a6 a7 a8 a9 a10]; rfl

theorem at_v24 (b : Fin 4) (t : Fin 4096) (j : Fin 48) :
    A_main_v24 (F := Ideal) a0 a1 a2 a3 a5 a6 a7 a8 a9 (ix3 b t j) = ∑ k : Fin 128, Model.xf (wts a2 a3 a4 a5 a6 a7 a8 a9 a10) (seq a0 b) t k * a5 (ix2 j k) := by
  unfold A_main_v24
  pointwise [at_v23 a0 a1 a2 a3 a4 a5 a6 a7 a8 a9 a10]

theorem at_v31 (b : Fin 4) (t : Fin 4096) (d : Fin 128) :
    A_main_v31 (F := Ideal) a0 a1 a2 a3 a5 a6 a7 a8 a9 (ix3 b t d) = Model.preR (wts a2 a3 a4 a5 a6 a7 a8 a9 a10) (seq a0 b) t d := by
  unfold A_main_v31 A_main_v30 A_main_v29 A_main_v28 A_main_v25 Model.preR
  pointwise [at_v24 a0 a1 a2 a3 a4 a5 a6 a7 a8 a9 a10]
  rfl

theorem at_v32 (b : Fin 4) (t : Fin 4096) (d : Fin 128) :
    A_main_v32 (F := Ideal) a0 a1 a2 a3 a5 a6 a7 a8 a9 (ix3 b t d) = Model.dlR (wts a2 a3 a4 a5 a6 a7 a8 a9 a10) (seq a0 b) t d := by
  have e : A_main_v32 (F := Ideal) a0 a1 a2 a3 a5 a6 a7 a8 a9 = softE (A_main_v31 (F := Ideal) a0 a1 a2 a3 a5 a6 a7 a8 a9) := rfl
  rw [e, softE_apply, at_v31 a0 a1 a2 a3 a4 a5 a6 a7 a8 a9 a10]; rfl

/-- The decay. -/
theorem at_v84 (t : Fin 4096) (b : Fin 4) (d : Fin 128) (n : Fin 16) :
    A_main_v84 (F := Ideal) a0 a1 a2 a3 a5 a6 a7 a8 a9 (ix4 t b d n)
      = Ideal.exp (Model.dlR (wts a2 a3 a4 a5 a6 a7 a8 a9 a10) (seq a0 b) t d * Model.A (wts a2 a3 a4 a5 a6 a7 a8 a9 a10) d n) := by
  unfold A_main_v84 A_main_v74 A_main_v73 A_main_v72 A_main_v71 A_main_v70 A_main_v69 A_main_v67 A_main_v66 Model.A
  pointwise [at_v32 a0 a1 a2 a3 a4 a5 a6 a7 a8 a9 a10]
  rfl

/-- What each time adds. -/
theorem at_v85 (t : Fin 4096) (b : Fin 4) (d : Fin 128) (n : Fin 16) :
    A_main_v85 (F := Ideal) a0 a1 a2 a3 a5 a6 a7 a8 a9 (ix4 t b d n)
      = (Model.dlR (wts a2 a3 a4 a5 a6 a7 a8 a9 a10) (seq a0 b) t d * Model.xf (wts a2 a3 a4 a5 a6 a7 a8 a9 a10) (seq a0 b) t d) * Model.B (wts a2 a3 a4 a5 a6 a7 a8 a9 a10) (seq a0 b) t n := by
  unfold A_main_v85 A_main_v80 A_main_v79 A_main_v78 A_main_v77 A_main_v76 A_main_v75 A_main_v26 Model.B
  pointwise [at_v32 a0 a1 a2 a3 a4 a5 a6 a7 a8 a9 a10, at_v23 a0 a1 a2 a3 a4 a5 a6 a7 a8 a9 a10, at_v24 a0 a1 a2 a3 a4 a5 a6 a7 a8 a9 a10]
  rfl

theorem at_v86 (t : Fin 4096) (b : Fin 4) (n : Fin 16) :
    A_main_v86 (F := Ideal) a0 a1 a2 a3 a5 a6 a7 a8 a9 (ix3 t b n) = Model.C (wts a2 a3 a4 a5 a6 a7 a8 a9 a10) (seq a0 b) t n := by
  unfold A_main_v86 A_main_v27 Model.C
  pointwise [at_v24 a0 a1 a2 a3 a4 a5 a6 a7 a8 a9 a10]
  rfl

/-- The skip. -/
theorem at_v87 (t : Fin 4096) (b : Fin 4) (d : Fin 128) :
    A_main_v87 (F := Ideal) a0 a1 a2 a3 a5 a6 a7 a8 a9 (ix3 t b d)
      = Model.xf (wts a2 a3 a4 a5 a6 a7 a8 a9 a10) (seq a0 b) t d * (wts a2 a3 a4 a5 a6 a7 a8 a9 a10).D d := by
  unfold A_main_v87 A_main_v83 A_main_v82 A_main_v81
  pointwise [at_v23 a0 a1 a2 a3 a4 a5 a6 a7 a8 a9 a10]
  rfl

/-! The second argument's are the first's at that argument. -/

theorem v103_eq : A_main_v103 (F := Ideal) a0 a1 a2 a3 a5 a6 a7 a8 a9 = A_main_v84 (F := Ideal) a1 a1 a2 a3 a5 a6 a7 a8 a9 := rfl
theorem v104_eq : A_main_v104 (F := Ideal) a0 a1 a2 a3 a5 a6 a7 a8 a9 = A_main_v85 (F := Ideal) a1 a1 a2 a3 a5 a6 a7 a8 a9 := rfl
theorem v105_eq : A_main_v105 (F := Ideal) a0 a1 a2 a3 a5 a6 a7 a8 a9 = A_main_v86 (F := Ideal) a1 a1 a2 a3 a5 a6 a7 a8 a9 := rfl
theorem v106_eq : A_main_v106 (F := Ideal) a0 a1 a2 a3 a5 a6 a7 a8 a9 = A_main_v87 (F := Ideal) a1 a1 a2 a3 a5 a6 a7 a8 a9 := rfl

end Cert.ReferenceIdeal.Value

end
-- ==== Proof.Precondition.lean ====
/- What the precondition `moderate` says of the arguments, at the extended reals: the inputs and the weights the time step is
   computed of are finite, and the time step's argument is at most twenty everywhere. -/
module

public import proofs.«01_k».proof.Pre_moderate
public import proofs.«01_k».proof.Proof.RefInputs
public import Idealize.ShloMosaic.Lib.Pointwise

@[expose] public section

noncomputable section

namespace Cert.Pre_moderate.Gen

open Idealize.ShloMosaic Cert.Pre_moderate

/-- The shape facts the predicate states. -/
instance facts : Cert.Pre_moderate.Facts where
  bcast_S_S4x4096x256 := by decide
  slices_S256x256_S128x256_0_0 := by decide
  bcast_S_S128x256 := by decide
  bcast_S_S128x1x3 := by decide
  slices_S48x128_S16x128_0_0 := by decide
  bcast_S_S16x128 := by decide
  bcast_S_S128x16 := by decide
  pads_S4x4096x128_S4x4098x128_000_110_000 := by decide
  h_S_ := by decide
  slices_S128x1x3_S128x1x1_0_0_0 := by decide
  shapeCasts_S128x1x1_S128 := by decide
  slices_S4x4098x128_S4x4096x128_0_0_0 := by decide
  bcast_S128_S1x1x128_2 := by decide
  bcast_S1x1x128_S4x4096x128_0_1_2 := by decide
  slices_S128x1x3_S128x1x1_0_0_1 := by decide
  slices_S4x4098x128_S4x4096x128_0_1_0 := by decide
  slices_S128x1x3_S128x1x1_0_0_2 := by decide
  slices_S4x4098x128_S4x4096x128_0_2_0 := by decide
  bcast_S_S4x4096x128 := by decide
  dot_S4x4096x256_S128x256_S4x4096x128_2_1_01_0_n_n_wf := by decide
  dot_S4x4096x128_S16x128_S4x4096x16_2_1_01_0_n_n_wf := by decide
  dot_S4x4096x16_S128x16_S4x4096x128_2_1_01_0_n_n_wf := by decide

end Cert.Pre_moderate.Gen

namespace Cert.Pre_moderate.Reading

open Idealize.ShloMosaic Cert.Pre_moderate Cert.Pre_moderate.Gen Cert.Pre_moderate.Facts
open Cert.ReferenceIdeal.Value (convE convE_apply siluE siluE_apply wts seq)

variable (a0 a1 : FVec Ideal S4x4096x256 .f32) (a2 : FVec Ideal S256x256 .f32) (a3 : FVec Ideal S128x1x3 .f32)
  (a4 : FVec Ideal S128x1x3 .f32) (a5 : FVec Ideal S48x128 .f32) (a6 : FVec Ideal S128x16 .f32) (a7 : FVec Ideal S128 .f32)
  (a8 : FVec Ideal S128x16 .f32) (a9 : FVec Ideal S128 .f32) (a10 : FVec Ideal S256x256 .f32)

/-- An extended real of absolute value below infinity is a real. -/
theorem fin_of_abs {x : EReal} (h : max x (-x) < ⊤) : Model.Fin' x := by
  induction x using EReal.rec with
  | bot => simp at h
  | coe r => exact ⟨r, rfl⟩
  | top => simp at h

/-- The word of infinity. -/
theorem infinity : Ideal.ofBits .f32 0x7F800000#32 = ⊤ := by
  simp [Ideal.ofBits, Ideal.ieee]

theorem of_ofBool {p : Prop} [Decidable p] (h : BitVec.ofBool (decide p) = 1#1) : p := by
  by_contra n
  rw [decide_eq_false n] at h
  exact absurd h (by decide)

/-- The predicate's test of finiteness, of an array of any shape. -/
def finE {s : Shape} (hb : S_.BroadcastsInDim s (![] : Fin 0 → Fin s.rank)) (x : FVec Ideal s .f32) : IVec s 1 :=
  cmpf .olt (Host.absf x) (broadcastInDim s ![] hb (constant (F := Ideal) S_ .f32 0x7F800000#32))

theorem fin_of_finE {s : Shape} {hb : S_.BroadcastsInDim s (![] : Fin 0 → Fin s.rank)} {x : FVec Ideal s .f32}
    (h : finE hb x = fun _ => 1#1) (i : s.Idx) : Model.Fin' (x i) := by
  have e := of_ofBool (p := max (x i) (-(x i)) < Ideal.ofBits .f32 0x7F800000#32) (congrFun h i)
  rw [infinity] at e
  exact fin_of_abs e

/-- The rows of the first half's projection, and of the time step's. -/
def rowsW : FVec Ideal S128x256 .f32 := extractStridedSlice S128x256 ![0, 0] a2 slices_S256x256_S128x256_0_0
def rowsXp : FVec Ideal S16x128 .f32 := extractStridedSlice S16x128 ![0, 0] a5 slices_S48x128_S16x128_0_0

theorem rowsW_apply (d : Fin 128) (k : Fin 256) : rowsW a2 (ix2 d k) = a2 (ix2 (Model.chX d) k) := by
  unfold rowsW Model.chX
  pointwise

theorem rowsXp_apply (j : Fin 16) (k : Fin 128) : rowsXp a5 (ix2 j k) = a5 (ix2 (⟨j, by omega⟩ : Fin 48) k) := by
  unfold rowsXp
  pointwise

theorem fin_rowsW (h : finE bcast_S_S128x256 (rowsW a2) = fun _ => 1#1) (d : Fin 128) (k : Fin 256) : Model.Fin' (a2 (ix2 (Model.chX d) k)) := by
  rw [← rowsW_apply a2 d k]; exact fin_of_finE h _

theorem fin_rowsXp (h : finE bcast_S_S16x128 (rowsXp a5) = fun _ => 1#1) (j : Fin 16) (k : Fin 128) :
    Model.Fin' (a5 (ix2 (⟨j, by omega⟩ : Fin 48) k)) := by
  rw [← rowsXp_apply a5 j k]; exact fin_of_finE h _

/-- The projection of an argument onto the channels of the first half. -/
def projE (a : FVec Ideal S4x4096x256 .f32) : FVec Ideal S4x4096x128 .f32 :=
  Host.dotGeneral dot_S4x4096x256_S128x256_S4x4096x128_2_1_01_0_n_n none a
    (rowsW a2)

/-- The argument of the time step, as the predicate computes it. -/
def preE (a : FVec Ideal S4x4096x256 .f32) : FVec Ideal S4x4096x128 .f32 :=
  addf (Host.dotGeneral dot_S4x4096x16_S128x16_S4x4096x128_2_1_01_0_n_n none
      (Host.dotGeneral dot_S4x4096x128_S16x128_S4x4096x16_2_1_01_0_n_n none
        (siluE (convE (projE a2 a) a3))
        (rowsXp a5)) a6)
    (broadcastInDim S4x4096x128 ![0, 1, 2] bcast_S1x1x128_S4x4096x128_0_1_2 (broadcastInDim S1x1x128 ![2] bcast_S128_S1x1x128_2 a7))

/-- The predicate's test of the time step's argument. -/
def smallE (a : FVec Ideal S4x4096x256 .f32) : IVec S4x4096x128 1 :=
  cmpf .ole (preE a2 a3 a5 a6 a7 a) (broadcastInDim S4x4096x128 ![] bcast_S_S4x4096x128 (constant (F := Ideal) S_ .f32 0x41A00000#32))

theorem proj_apply (a : FVec Ideal S4x4096x256 .f32) (b : Fin 4) (t : Fin 4096) (d : Fin 128) :
    projE a2 a (ix3 b t d)
      = Model.proj (wts a2 a3 a4 a5 a6 a7 a8 a9 a10) (seq a b) t (Model.chX d) := by
  unfold projE Model.proj seq wts
  pointwise [rowsW_apply]

theorem xf_apply (a : FVec Ideal S4x4096x256 .f32) (b : Fin 4) (t : Fin 4096) (d : Fin 128) :
    siluE (convE (projE a2 a) a3) (ix3 b t d)
      = Model.xf (wts a2 a3 a4 a5 a6 a7 a8 a9 a10) (seq a b) t d := by
  rw [siluE_apply, convE_apply]
  simp only [proj_apply a2 a3 a4 a5 a6 a7 a8 a9 a10]
  rfl

theorem preE_apply (a : FVec Ideal S4x4096x256 .f32) (b : Fin 4) (t : Fin 4096) (d : Fin 128) :
    preE a2 a3 a5 a6 a7 a (ix3 b t d) = Model.preR (wts a2 a3 a4 a5 a6 a7 a8 a9 a10) (seq a b) t d := by
  unfold preE Model.preR
  pointwise [rowsXp_apply, xf_apply a2 a3 a4 a5 a6 a7 a8 a9 a10]
  rfl

theorem le_of_smallE {a : FVec Ideal S4x4096x256 .f32} (h : smallE a2 a3 a5 a6 a7 a = fun _ => 1#1) (b : Fin 4) (t : Fin 4096) (d : Fin 128) :
    Model.preR (wts a2 a3 a4 a5 a6 a7 a8 a9 a10) (seq a b) t d ≤ 20 := by
  have e := of_ofBool (p := preE a2 a3 a5 a6 a7 a (ix3 b t d) ≤ Ideal.ofBits .f32 0x41A00000#32) (congrFun h (ix3 b t d))
  rwa [Cert.KernelIdeal.Scan.twenty, preE_apply a2 a3 a4 a5 a6 a7 a8 a9 a10] at e

/-- The eight tests of the predicate. -/
theorem fn_eq : fn (F := Ideal) a0 a1 a2 a3 a4 a5 a6 a7 a8 a9 a10
    = (finE bcast_S_S4x4096x256 a0, finE bcast_S_S4x4096x256 a1, finE bcast_S_S128x256 (rowsW a2), finE bcast_S_S128x1x3 a3,
      finE bcast_S_S16x128 (rowsXp a5), finE bcast_S_S128x16 a6, smallE a2 a3 a5 a6 a7 a0, smallE a2 a3 a5 a6 a7 a1) := rfl

end Cert.Pre_moderate.Reading

end
-- ==== Proof.KernelIdealRun.lean ====
/- The whole-body run of the program `KernelIdeal` at one grid point, as the generated run module states it, over the loop
   instance of `KernelIdealLoops`. -/
module

public import proofs.«01_k».proof.Proof.Gen.KernelIdeal.Frame.Runs
public import proofs.«01_k».proof.Proof.KernelIdealLoops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole)
    (x0 : Vec F S2x4096x256 .f32) (x1 : Vec F S256x256 .f32) (x2 : Vec F S128x128 .f32) (x3 : Vec F S32x128 .f32) (x4 : Vec F S256x256 .f32) (x5 : Vec F S16x128 .f32) (x6 : Vec F S8x128 .f32) :
    Σ' (L7 : List (View.Piece (Elt F) S2x4096x256 .f32)), Σ' (LT1 : List (View.Piece (Elt F) S2x4096x128 .f32)), { LT2 : List (View.Piece (Elt F) S2x4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_mamba_vision_fused i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_mamba_vision_fused_eq_skeleton]; unfold cc0_mamba_vision_fused_skel
    simp only [k0_part169_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.KernelIdealFrame.lean ====
/- The frame certificate of the program `KernelIdeal`: what the output holds per grid point, the proof data, the body's
   obligation, the run and the frame, as the generated module states them, over the run of `KernelIdealRun`. -/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (16 stores of `S1x512x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole)
    (x0 : Vec F S2x4096x256 .f32) (x1 : Vec F S256x256 .f32) (x2 : Vec F S128x128 .f32) (x3 : Vec F S32x128 .f32) (x4 : Vec F S256x256 .f32) (x5 : Vec F S16x128 .f32) (x6 : Vec F S8x128 .f32) (y : S2x4096x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1 S1x512x256.size (by sl_kernel_rfl) y

/-- What the run leaves in output 7's staging buffer: its pieces read back over junk. -/
def out0_A_7 (c : Dev nD) (i : grid0.Coords) (arg1 : Memref sig .tc .vmem S2x4096x256 .f32) (harg1 : arg1.IsWhole) (arg2 : Memref sig .tc .vmem S256x256 .f32) (harg2 : arg2.IsWhole) (arg3 : Memref sig .tc .vmem S128x128 .f32) (harg3 : arg3.IsWhole) (arg4 : Memref sig .tc .vmem S32x128 .f32) (harg4 : arg4.IsWhole) (arg5 : Memref sig .tc .vmem S256x256 .f32) (harg5 : arg5.IsWhole) (arg6 : Memref sig .tc .vmem S16x128 .f32) (harg6 : arg6.IsWhole) (arg7 : Memref sig .tc .vmem S8x128 .f32) (harg7 : arg7.IsWhole) (arg8 : Memref sig .tc .vmem S2x4096x256 .f32) (harg8 : arg8.IsWhole) (arg9 : Memref sig .tc .vmem S4096x256 .f32) (harg9 : arg9.IsWhole) (arg10 : Memref sig .tc .vmem S2x4096x128 .f32) (harg10 : arg10.IsWhole) (arg11 : Memref sig .tc .vmem S2x4096x128 .f32) (harg11 : arg11.IsWhole) (arg12 : Memref sig .tc .vmem S2x4096x128 .f32) (harg12 : arg12.IsWhole) (arg13 : Memref sig .tc .vmem S2x4096x128 .f32) (harg13 : arg13.IsWhole) (arg14 : Memref sig .tc .vmem S2x32x4096 .f32) (harg14 : arg14.IsWhole) (arg15 : Memref sig .tc .vmem S2x2048x128 .f32) (harg15 : arg15.IsWhole)
    (x0 : Vec F S2x4096x256 .f32) (x1 : Vec F S256x256 .f32) (x2 : Vec F S128x128 .f32) (x3 : Vec F S32x128 .f32) (x4 : Vec F S256x256 .f32) (x5 : Vec F S16x128 .f32) (x6 : Vec F S8x128 .f32) : Vec F S2x4096x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1)

/-! ## What the outputs hold after each point -/

/-- What the outputs' staging buffers hold after the body at point `t`: the run's contents at
    the point's memrefs and input blocks. -/
def outsAt0 (c : Dev nD) (t : Fin cfg0.N) : Vec F S2x4096x256 .f32 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, ⟨%e7, H7⟩, HS0, ⟨%fT1, HS1⟩, ⟨%fT2, HS2⟩, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.KernelIdealPieces.lean ====
/- The stores of one grid point of the program `KernelIdeal`, written uniformly in the stream and the chunk: the run's piece lists are
   these lists. -/
module

public import proofs.«01_k».proof.Proof.KernelIdealRun
public import proofs.«01_k».proof.Proof.KernelIdealChunk

@[expose] public section

noncomputable section

namespace Cert.KernelIdeal.Scan

open Idealize.ShloMosaic Idealize.ShloMosaic.TcCoe Cert.KernelIdeal Cert.KernelIdeal.Gen

theorem inb2 {o0 o1 a0 a1 b0 b1 : Nat} (h0 : o0 + a0 ≤ b0) (h1 : o1 + a1 ≤ b1) (a : Fin 2) :
    (![o0, o1] : Fin 2 → Nat) a + (![a0, a1] : Fin 2 → Nat) a ≤ (![b0, b1] : Fin 2 → Nat) a := by
  match a with
  | ⟨0, _⟩ => exact h0
  | ⟨1, _⟩ => exact h1

theorem inb3 {o0 o1 o2 a0 a1 a2 b0 b1 b2 : Nat} (h0 : o0 + a0 ≤ b0) (h1 : o1 + a1 ≤ b1) (h2 : o2 + a2 ≤ b2) (a : Fin 3) :
    (![o0, o1, o2] : Fin 3 → Nat) a + (![a0, a1, a2] : Fin 3 → Nat) a ≤ (![b0, b1, b2] : Fin 3 → Nat) a := by
  match a with
  | ⟨0, _⟩ => exact h0
  | ⟨1, _⟩ => exact h1
  | ⟨2, _⟩ => exact h2

/-- The chunks of a stream, last first. -/
def chunks : List (Fin 8) := [7, 6, 5, 4, 3, 2, 1, 0]

theorem mem_chunks (k : Fin 8) : k ∈ chunks := by revert k; decide

section models

variable {F : FTy → Type} [FloatOps F]
variable (c : Dev nD)
  (arg1 : Memref sig .tc .vmem S2x4096x256 .f32) (harg1 : arg1.IsWhole) (arg2 : Memref sig .tc .vmem S256x256 .f32) (harg2 : arg2.IsWhole)
  (arg3 : Memref sig .tc .vmem S128x128 .f32) (harg3 : arg3.IsWhole) (arg4 : Memref sig .tc .vmem S32x128 .f32) (harg4 : arg4.IsWhole)
  (arg5 : Memref sig .tc .vmem S256x256 .f32) (harg5 : arg5.IsWhole) (arg6 : Memref sig .tc .vmem S16x128 .f32) (harg6 : arg6.IsWhole)
  (arg7 : Memref sig .tc .vmem S8x128 .f32) (harg7 : arg7.IsWhole) (arg9 : Memref sig .tc .vmem S4096x256 .f32)
  (arg10 : Memref sig .tc .vmem S2x4096x128 .f32) (arg11 : Memref sig .tc .vmem S2x4096x128 .f32)
  (arg12 : Memref sig .tc .vmem S2x4096x128 .f32) (arg13 : Memref sig .tc .vmem S2x4096x128 .f32)
  (arg14 : Memref sig .tc .vmem S2x32x4096 .f32) (arg15 : Memref sig .tc .vmem S2x2048x128 .f32)
  (x0 : Vec F S2x4096x256 .f32) (x1 : Vec F S256x256 .f32) (x2 : Vec F S128x128 .f32) (x3 : Vec F S32x128 .f32)
  (x4 : Vec F S256x256 .f32) (x5 : Vec F S16x128 .f32) (x6 : Vec F S8x128 .f32)

/-- The input projection of chunk `k` of stream `s`, stored at the chunk's rows. -/
def projPiece (s : Fin 2) (k : Fin 8) : View.Piece (Elt F) S4096x256 .f32 :=
  ⟨Rect.unit ![512 * k.val, 0] S512x256.size (inb2 (by omega) (by omega)),
    k0_pay922
      (View.readAt (Elt F) arg1.view (Rect.unit (s := S2x4096x256) ![s.val, 512 * k.val, 0] S1x512x256.size (inb3 (by omega) (by omega) (by omega))).toLoadRect
        (harg1.unread x0))
      (View.readAt (Elt F) arg2.view (Rect.unit (s := S256x256) ![0, 0] S256x256.size inb_S256x256_S256x256_0_0).toLoadRect (harg2.unread x1))⟩

/-- Row `j` of the small operands. -/
def auxRow (j : Fin 8) : FVec F S1x128 .f32 :=
  k0_pay914 (View.readAt (Elt F) arg7.view (Rect.unit (s := S8x128) ![j.val, 0] S1x128.size (inb2 (by omega) (by omega))).toLoadRect (harg7.unread x6))

theorem slicesRow (r : Fin 8) (z : Fin 2) : S8x256.Slices ![r.val, 128 * z.val] S1x128 :=
  ⟨rfl, inb2 (by omega) (by omega)⟩

variable (L : List (View.Piece (Elt F) S4096x256 .f32))

/-- Eight rows of the projections from row `o`. -/
def rows8 (o : Nat) (h : o + 8 ≤ 4096) : Vec F S8x256 .f32 :=
  arg9.view.readCov L (Rect.unit (s := S4096x256) ![o, 0] S8x256.size (inb2 h (by omega))).toLoadRect

/-- The row above a chunk. -/
def above (z : Fin 2) (k : Fin 8) : FVec F S1x128 .f32 :=
  if 0 < k.val then
    extractStridedSlice S1x128 ![(7 : Fin 8).val, 128 * z.val] (rows8 arg9 L (512 * k.val - 8) (by omega)) (slicesRow 7 z)
  else k0_pay921

/-- The row below a chunk. -/
def below (z : Fin 2) (k : Fin 8) : FVec F S1x128 .f32 :=
  if h : k.val < 7 then
    extractStridedSlice S1x128 ![(0 : Fin 8).val, 128 * z.val] (rows8 arg9 L (512 * k.val + 512) (by omega)) (slicesRow 0 z)
  else k0_pay921

/-- The activated convolution of chunk `k` of the half `z`, stored at stream `s`, from the projections stored before. -/
def convPiece (z s : Fin 2) (k : Fin 8) : View.Piece (Elt F) S2x4096x128 .f32 :=
  ⟨Rect.unit ![s.val, 512 * k.val, 0] S1x512x128.size (inb3 (by omega) (by omega) (by omega)),
    siluC (convC (auxRow arg7 harg7 x6 ⟨3 * z.val, by omega⟩) (auxRow arg7 harg7 x6 ⟨3 * z.val + 1, by omega⟩)
      (auxRow arg7 harg7 x6 ⟨3 * z.val + 2, by omega⟩) (above arg9 L z k)
      (arg9.view.readCov L (Rect.unit (s := S4096x256) ![512 * k.val, 128 * z.val] S512x128.size (inb2 (by omega) (by omega))).toLoadRect)
      (below arg9 L z k))⟩

variable (X : List (View.Piece (Elt F) S2x4096x128 .f32))

/-- The activated half read back at chunk `k` of stream `s`. -/
def chunkOf (M : Memref sig .tc .vmem S2x4096x128 .f32) (s : Fin 2) (k : Fin 8) : Vec F S1x512x128 .f32 :=
  M.view.readCov X (Rect.unit (s := S2x4096x128) ![s.val, 512 * k.val, 0] S1x512x128.size (inb3 (by omega) (by omega) (by omega))).toLoadRect

/-- The weights of the time step. -/
def wdl : Vec F S128x128 .f32 :=
  View.readAt (Elt F) arg3.view (Rect.unit (s := S128x128) ![0, 0] S128x128.size inb_S128x128_S128x128_0_0).toLoadRect (harg3.unread x2)

/-- The time steps of chunk `k` of stream `s`. -/
def dlPiece (s : Fin 2) (k : Fin 8) : View.Piece (Elt F) S2x4096x128 .f32 :=
  ⟨Rect.unit ![s.val, 512 * k.val, 0] S1x512x128.size (inb3 (by omega) (by omega) (by omega)),
    shapeCast S1x512x128 (dlC (auxRow arg7 harg7 x6 6) (chunkOf X arg10 s k) (wdl arg3 harg3 x2)) shapeCasts_S512x128_S1x512x128⟩

/-- The time steps times the inputs, of chunk `k` of stream `s`. -/
def dxPiece (s : Fin 2) (k : Fin 8) : View.Piece (Elt F) S2x4096x128 .f32 :=
  ⟨Rect.unit ![s.val, 512 * k.val, 0] S1x512x128.size (inb3 (by omega) (by omega) (by omega)),
    shapeCast S1x512x128 (mulf (dlC (auxRow arg7 harg7 x6 6) (chunkOf X arg10 s k) (wdl arg3 harg3 x2)) (k0_pay959 (chunkOf X arg10 s k)))
      shapeCasts_S512x128_S1x512x128⟩

/-- The two state projections of chunk `k` of stream `s`, time along the columns. -/
def bcPiece (s : Fin 2) (k : Fin 8) : View.Piece (Elt F) S2x32x4096 .f32 :=
  ⟨Rect.unit ![s.val, 0, 512 * k.val] S1x32x512.size (inb3 (by omega) (by omega) (by omega)),
    k0_pay966 (k0_pay959 (chunkOf X arg10 s k))
      (View.readAt (Elt F) arg4.view (Rect.unit (s := S32x128) ![0, 0] S32x128.size inb_S32x128_S32x128_0_0).toLoadRect (harg4.unread x3))⟩

/-- The output projection of chunk `k` of stream `s`. -/
def outPiece (Z : List (View.Piece (Elt F) S2x4096x128 .f32)) (s : Fin 2) (k : Fin 8) : View.Piece (Elt F) S2x4096x256 .f32 :=
  ⟨Rect.unit ![s.val, 512 * k.val, 0] S1x512x256.size (inb3 (by omega) (by omega) (by omega)),
    k0_pay1119 (auxRow arg7 harg7 x6 7)
      (arg9.view.readCov L (Rect.unit (s := S4096x256) ![512 * k.val, 128 * s.val] S512x128.size (inb2 (by omega) (by omega))).toLoadRect)
      (chunkOf X arg10 s k) (chunkOf Z arg11 s k)
      (View.readAt (Elt F) arg5.view (Rect.unit (s := S256x256) ![0, 0] S256x256.size inb_S256x256_S256x256_0_0).toLoadRect (harg5.unread x4))⟩

/-- Both streams' stores, the second's on top. -/
def both {s : Shape} {e : EltTy} (f : Fin 2 → Fin 8 → View.Piece (Elt F) s e) : List (View.Piece (Elt F) s e) := chunks.map (f 1) ++ chunks.map (f 0)

/-- The projections stored before the convolution of stream `s`. -/
def projL (s : Fin 2) : List (View.Piece (Elt F) S4096x256 .f32) :=
  if s.val = 0 then chunks.map (projPiece arg1 harg1 arg2 harg2 x0 x1 0) else both (projPiece arg1 harg1 arg2 harg2 x0 x1)

theorem HS0_8_eq : kernelRun0_A.sl.HS0_8 c arg1 harg1 arg2 harg2 x0 x1 = projL arg1 harg1 arg2 harg2 x0 x1 0 := rfl

theorem HS0_16_eq : kernelRun0_A.sl.HS0_16 c arg1 harg1 arg2 harg2 x0 x1 = projL arg1 harg1 arg2 harg2 x0 x1 1 := rfl

/-- The activated half `z`. -/
abbrev convP (z s : Fin 2) (k : Fin 8) : View.Piece (Elt F) S2x4096x128 .f32 :=
  convPiece arg7 harg7 arg9 x6 (projL arg1 harg1 arg2 harg2 x0 x1 s) z s k

/-- The activated inputs stored before the time steps of stream `s`. -/
def xfL (s : Fin 2) : List (View.Piece (Elt F) S2x4096x128 .f32) :=
  if s.val = 0 then chunks.map (convP arg1 harg1 arg2 harg2 arg7 harg7 arg9 x0 x1 x6 0 0)
  else both (convP arg1 harg1 arg2 harg2 arg7 harg7 arg9 x0 x1 x6 0)

theorem HS1_8_eq : kernelRun0_A.sl.HS1_8 c arg1 harg1 arg2 harg2 arg7 harg7 arg9 x0 x1 x6
    = xfL arg1 harg1 arg2 harg2 arg7 harg7 arg9 x0 x1 x6 0 := rfl

theorem HS1_16_eq : kernelRun0_A.sl.HS1_16 c arg1 harg1 arg2 harg2 arg7 harg7 arg9 x0 x1 x6
    = xfL arg1 harg1 arg2 harg2 arg7 harg7 arg9 x0 x1 x6 1 := rfl

theorem HS2_16_eq : kernelRun0_A.sl.HS2_16 c arg1 harg1 arg2 harg2 arg7 harg7 arg9 x0 x1 x6
    = both (convP arg1 harg1 arg2 harg2 arg7 harg7 arg9 x0 x1 x6 1) := rfl

/-- Stream `s` uses the activated inputs stored before its time steps. -/
abbrev dlP (s : Fin 2) (k : Fin 8) : View.Piece (Elt F) S2x4096x128 .f32 :=
  dlPiece arg3 harg3 arg7 harg7 arg10 x2 x6 (xfL arg1 harg1 arg2 harg2 arg7 harg7 arg9 x0 x1 x6 s) s k

abbrev dxP (s : Fin 2) (k : Fin 8) : View.Piece (Elt F) S2x4096x128 .f32 :=
  dxPiece arg3 harg3 arg7 harg7 arg10 x2 x6 (xfL arg1 harg1 arg2 harg2 arg7 harg7 arg9 x0 x1 x6 s) s k

abbrev bcP (s : Fin 2) (k : Fin 8) : View.Piece (Elt F) S2x32x4096 .f32 :=
  bcPiece arg4 harg4 arg10 x3 (xfL arg1 harg1 arg2 harg2 arg7 harg7 arg9 x0 x1 x6 s) s k

theorem HS3_16_eq : kernelRun0_A.sl.HS3_16 c arg1 harg1 arg2 harg2 arg3 harg3 arg7 harg7 arg9 arg10 x0 x1 x2 x6
    = both (dlP arg1 harg1 arg2 harg2 arg3 harg3 arg7 harg7 arg9 arg10 x0 x1 x2 x6) := rfl

theorem HS4_16_eq : kernelRun0_A.sl.HS4_16 c arg1 harg1 arg2 harg2 arg3 harg3 arg7 harg7 arg9 arg10 x0 x1 x2 x6
    = both (dxP arg1 harg1 arg2 harg2 arg3 harg3 arg7 harg7 arg9 arg10 x0 x1 x2 x6) := rfl

theorem HS5_16_eq : kernelRun0_A.sl.HS5_16 c arg1 harg1 arg2 harg2 arg4 harg4 arg7 harg7 arg9 arg10 x0 x1 x3 x6
    = both (bcP arg1 harg1 arg2 harg2 arg4 harg4 arg7 harg7 arg9 arg10 x0 x1 x3 x6) := rfl

/-- The decay rates. -/
def rates : FVec F S16x128 .f32 :=
  k0_pay1108 (View.readAt (Elt F) arg6.view (Rect.unit (s := S16x128) ![0, 0] S16x128.size inb_S16x128_S16x128_0_0).toLoadRect (harg6.unread x5))

/-- The stores of the scan, on top of the projections they replace. -/
def scanL : List (View.Piece (Elt F) S4096x256 .f32) :=
  (st_k0_t1 arg12 arg13 arg14 arg15 (rates arg6 harg6 x5) (iota .tc S8x128 32 [0] iota_S8x128_d0_w32)
    (arg12.view.writes (Elt F) arg12.view.junk (both (dlP arg1 harg1 arg2 harg2 arg3 harg3 arg7 harg7 arg9 arg10 x0 x1 x2 x6)))
    (arg13.view.writes (Elt F) arg13.view.junk (both (dxP arg1 harg1 arg2 harg2 arg3 harg3 arg7 harg7 arg9 arg10 x0 x1 x2 x6)))
    (arg14.view.writes (Elt F) arg14.view.junk (both (bcP arg1 harg1 arg2 harg2 arg4 harg4 arg7 harg7 arg9 arg10 x0 x1 x3 x6)))
    (k0_pay1110, k0_pay1110) (Scf.trips k0_t1_loop.lb k0_t1_loop.ub k0_t1_loop.st)).2.1

abbrev outP (s : Fin 2) (k : Fin 8) : View.Piece (Elt F) S2x4096x256 .f32 :=
  outPiece arg5 harg5 arg7 harg7 arg9 arg10 arg11 x4 x6
    (scanL arg1 harg1 arg2 harg2 arg3 harg3 arg4 harg4 arg6 harg6 arg7 harg7 arg9 arg10 arg12 arg13 arg14 arg15 x0 x1 x2 x3 x5 x6
      ++ both (projPiece arg1 harg1 arg2 harg2 x0 x1))
    (both (convP arg1 harg1 arg2 harg2 arg7 harg7 arg9 x0 x1 x6 0)) (both (convP arg1 harg1 arg2 harg2 arg7 harg7 arg9 x0 x1 x6 1)) s k

set_option maxHeartbeats 2000000 in
theorem pieces_eq (i : grid0.Coords) (arg8 : Memref sig .tc .vmem S2x4096x256 .f32) (harg8 : arg8.IsWhole)
    (harg9 : arg9.IsWhole) (harg10 : arg10.IsWhole) (harg11 : arg11.IsWhole) (harg12 : arg12.IsWhole) (harg13 : arg13.IsWhole)
    (harg14 : arg14.IsWhole) (harg15 : arg15.IsWhole) :
    (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6).1
      = both (outP arg1 harg1 arg2 harg2 arg3 harg3 arg4 harg4 arg5 harg5 arg6 harg6 arg7 harg7 arg9 arg10 arg11 arg12 arg13 arg14 arg15
          x0 x1 x2 x3 x4 x5 x6) := rfl

end models

end Cert.KernelIdeal.Scan

end
-- ==== Proof.KernelIdealBlock.lean ====
/- What one grid point of the program `KernelIdeal` leaves in its output block, at the extended reals, as a function of its input blocks. -/
module

public import proofs.«01_k».proof.Proof.KernelIdealPieces

@[expose] public section

noncomputable section

namespace Cert.KernelIdeal.Scan

open Idealize.ShloMosaic Idealize.ShloMosaic.TcCoe Cert.KernelIdeal Cert.KernelIdeal.Gen

/-! ## The functions of the input blocks -/

section functions

variable (x0 : Vec Ideal S2x4096x256 .f32) (x1 : Vec Ideal S256x256 .f32) (x2 : Vec Ideal S128x128 .f32) (x3 : Vec Ideal S32x128 .f32)
  (x4 : Vec Ideal S256x256 .f32) (x5 : Vec Ideal S16x128 .f32) (x6 : Vec Ideal S8x128 .f32)

/-- The input projection of stream `s` at time `t`, channel `c`. -/
def xz (s : Fin 2) (t : Fin 4096) (c : Fin 256) : EReal := ∑ k : Fin 256, x0 (ix3 s t k) * x1 (ix2 k c)

/-- The channel of half `z`. -/
def chan (z : Fin 2) (d : Fin 128) : Fin 256 := ⟨128 * z + d, by omega⟩

/-- The convolution of half `z`, zero beyond the ends. -/
def cv (z s : Fin 2) (t : Fin 4096) (d : Fin 128) : EReal :=
  (x6 (ix2 ⟨3 * z, by omega⟩ d) * (if h : 0 < t.val then xz x0 x1 s ⟨t - 1, by omega⟩ (chan z d) else 0)
    + x6 (ix2 ⟨3 * z + 1, by omega⟩ d) * xz x0 x1 s t (chan z d))
  + x6 (ix2 ⟨3 * z + 2, by omega⟩ d) * (if h : t.val < 4095 then xz x0 x1 s ⟨t + 1, by omega⟩ (chan z d) else 0)

/-- Its activation. -/
def act (z s : Fin 2) (t : Fin 4096) (d : Fin 128) : EReal := cv x0 x1 x6 z s t d * Ideal.logistic (cv x0 x1 x6 z s t d)

/-- The pre-activation of the time step. -/
def dpre (s : Fin 2) (t : Fin 4096) (d : Fin 128) : EReal :=
  (∑ k : Fin 128, act x0 x1 x6 0 s t k * x2 (ix2 k d)) + x6 (ix2 6 d)

def dlF (y : S2x4096x128.Idx) : EReal := softcut (dpre x0 x1 x2 x6 (y 0) (y 1) (y 2))

def dxF (y : S2x4096x128.Idx) : EReal := softcut (dpre x0 x1 x2 x6 (y 0) (y 1) (y 2)) * act x0 x1 x6 0 (y 0) (y 1) (y 2)

def bcF (y : S2x32x4096.Idx) : EReal := ∑ k : Fin 128, x3 (ix2 (y 1) k) * act x0 x1 x6 0 (y 0) (y 2) k

/-- The scan's output. -/
def yF (s : Fin 2) (t : Fin 4096) (d : Fin 128) : EReal := yval x5 (dlF x0 x1 x2 x6) (dxF x0 x1 x2 x6) (bcF x0 x1 x3 x6) s t d

/-- The output block. -/
def outF (y : S2x4096x256.Idx) : EReal :=
  ∑ k : Fin 256, (if h : k.val < 128 then yF x0 x1 x2 x3 x5 x6 (y 0) (y 1) ⟨k, h⟩ + act x0 x1 x6 0 (y 0) (y 1) ⟨k, h⟩ * x6 (ix2 7 ⟨k, h⟩)
    else act x0 x1 x6 1 (y 0) (y 1) ⟨k - 128, by omega⟩) * x4 (ix2 k (y 2))

end functions

/-! ## The stores are blocks of them -/

theorem rd_unread {S : Shape} (M : Memref sig .tc .vmem S .f32) (h : M.IsWhole) (x : Vec Ideal S .f32) (B : LoadRect S) (j : B.shape.Idx) :
    View.readAt (Elt Ideal) M.view B (h.unread x) j = x (B.idx j) :=
  (View.readAt_apply _ _ _).trans (congrFun (h.read_unread x) _)

theorem rd_whole {a b : Nat} (M : Memref sig .tc .vmem ⟨2, ![a, b]⟩ .f32) (h : M.IsWhole) (x : Vec Ideal ⟨2, ![a, b]⟩ .f32)
    (inb) (i : Fin a) (j : Fin b) :
    View.readAt (Elt Ideal) M.view (Rect.unit (s := ⟨2, ![a, b]⟩) ![0, 0] ![a, b] inb).toLoadRect (h.unread x) (ix2 i j) = x (ix2 i j) :=
  (rd_unread M h x _ _).trans (congrArg x (idx2_ext ((unit_idx_val _ _ _ _ 0).trans (Nat.zero_add _)) ((unit_idx_val _ _ _ _ 1).trans (Nat.zero_add _))))

theorem ix2_self {a b : Nat} (x : (⟨2, ![a, b]⟩ : Shape).Idx) : x = ix2 (x 0) (x 1) := idx2_ext rfl rfl

theorem ix3_self {a b c : Nat} (x : (⟨3, ![a, b, c]⟩ : Shape).Idx) : x = ix3 (x 0) (x 1) (x 2) := idx3_ext rfl rfl rfl

theorem mem_unit2 {o0 o1 a0 a1 b0 b1 : Nat} (inb) (y : (⟨2, ![b0, b1]⟩ : Shape).Idx) (h0 : o0 ≤ (y 0).val ∧ (y 0).val < o0 + a0)
    (h1 : o1 ≤ (y 1).val ∧ (y 1).val < o1 + a1) : y ∈ (Rect.unit (s := ⟨2, ![b0, b1]⟩) ![o0, o1] ![a0, a1] inb).set := by
  rw [Rect.mem_set_unit]
  intro a
  match a with
  | ⟨0, _⟩ => exact h0
  | ⟨1, _⟩ => exact h1

theorem mem_unit3 {o0 o1 o2 a0 a1 a2 b0 b1 b2 : Nat} (inb) (y : (⟨3, ![b0, b1, b2]⟩ : Shape).Idx) (h0 : o0 ≤ (y 0).val ∧ (y 0).val < o0 + a0)
    (h1 : o1 ≤ (y 1).val ∧ (y 1).val < o1 + a1) (h2 : o2 ≤ (y 2).val ∧ (y 2).val < o2 + a2) :
    y ∈ (Rect.unit (s := ⟨3, ![b0, b1, b2]⟩) ![o0, o1, o2] ![a0, a1, a2] inb).set := by
  rw [Rect.mem_set_unit]
  intro a
  match a with
  | ⟨0, _⟩ => exact h0
  | ⟨1, _⟩ => exact h1
  | ⟨2, _⟩ => exact h2

/-- Stores that are blocks of `G`, both streams'. -/
theorem both_canon {S : Shape} (f : Fin 2 → Fin 8 → View.Piece (Elt Ideal) S .f32) (G : S.Idx → EReal)
    (hf : ∀ s k x, (f s k).2 x = G ((f s k).1.emb x)) (y : S.Idx) (hy : ∃ s k, y ∈ (f s k).1.set) :
    View.canon (both f) y = G y := by
  refine View.canon_apply_of_pieces G (both f) ?_ y ?_
  · intro p hp
    rcases List.mem_append.mp hp with hp | hp <;> obtain ⟨k, _, rfl⟩ := List.mem_map.mp hp
    · exact hf 1 k
    · exact hf 0 k
  · obtain ⟨s, k, h⟩ := hy
    refine ⟨f s k, ?_, h⟩
    rcases Fin.eq_zero_or_eq_succ s with rfl | ⟨z, rfl⟩
    · exact List.mem_append_right _ (List.mem_map_of_mem (mem_chunks k))
    · obtain rfl : z = 0 := Subsingleton.elim _ _
      exact List.mem_append_left _ (List.mem_map_of_mem (mem_chunks k))

/-- Stores of which those of stream `s` are blocks of `G s`, the later stream's on top. -/
theorem streams_canon {S : Shape} (f : Fin 2 → Fin 8 → View.Piece (Elt Ideal) S .f32) (G : Fin 2 → S.Idx → EReal)
    (hf : ∀ s k x, (f s k).2 x = G s ((f s k).1.emb x)) (s : Fin 2) (y : S.Idx) (hy : ∃ k, y ∈ (f s k).1.set) :
    View.canon (if s.val = 0 then chunks.map (f 0) else both f) y = G s y := by
  have key : ∀ s, ∀ p ∈ chunks.map (f s), ∀ x, p.2 x = G s (p.1.emb x) := by
    intro s p hp
    obtain ⟨k, _, rfl⟩ := List.mem_map.mp hp
    exact hf s k
  obtain ⟨k, h⟩ := hy
  rcases Fin.eq_zero_or_eq_succ s with rfl | ⟨z, rfl⟩
  · exact View.canon_apply_of_pieces (G 0) _ (key 0) y ⟨f 0 k, List.mem_map_of_mem (mem_chunks k), h⟩
  · obtain rfl : z = 0 := Subsingleton.elim _ _
    exact View.canon_append_of_pieces (G 1) (chunks.map (f 0)) (chunks.map (f 1)) (key 1) y ⟨f 1 k, List.mem_map_of_mem (mem_chunks k), h⟩

section blocks

variable
  (arg1 : Memref sig .tc .vmem S2x4096x256 .f32) (harg1 : arg1.IsWhole) (arg2 : Memref sig .tc .vmem S256x256 .f32) (harg2 : arg2.IsWhole)
  (arg3 : Memref sig .tc .vmem S128x128 .f32) (harg3 : arg3.IsWhole) (arg4 : Memref sig .tc .vmem S32x128 .f32) (harg4 : arg4.IsWhole)
  (arg5 : Memref sig .tc .vmem S256x256 .f32) (harg5 : arg5.IsWhole) (arg6 : Memref sig .tc .vmem S16x128 .f32) (harg6 : arg6.IsWhole)
  (arg7 : Memref sig .tc .vmem S8x128 .f32) (harg7 : arg7.IsWhole) (arg9 : Memref sig .tc .vmem S4096x256 .f32)
  (arg10 : Memref sig .tc .vmem S2x4096x128 .f32) (arg11 : Memref sig .tc .vmem S2x4096x128 .f32)
  (arg12 : Memref sig .tc .vmem S2x4096x128 .f32) (arg13 : Memref sig .tc .vmem S2x4096x128 .f32)
  (arg14 : Memref sig .tc .vmem S2x32x4096 .f32) (arg15 : Memref sig .tc .vmem S2x2048x128 .f32)
  (x0 : Vec Ideal S2x4096x256 .f32) (x1 : Vec Ideal S256x256 .f32) (x2 : Vec Ideal S128x128 .f32) (x3 : Vec Ideal S32x128 .f32)
  (x4 : Vec Ideal S256x256 .f32) (x5 : Vec Ideal S16x128 .f32) (x6 : Vec Ideal S8x128 .f32)

theorem chunk_mem {n : Nat} (s : Fin 2) (y : (⟨3, ![2, 4096, n]⟩ : Shape).Idx) (hs : y 0 = s) :
    ∃ k : Fin 8, ∀ inb, y ∈ (Rect.unit (s := ⟨3, ![2, 4096, n]⟩) ![s.val, 512 * k.val, 0] ![1, 512, n] inb).set := by
  subst hs
  have h1 : (y 1).val < 4096 := (y 1).isLt
  have h2 : (y 2).val < n := (y 2).isLt
  exact ⟨⟨(y 1).val / 512, by omega⟩, fun inb => mem_unit3 inb y ⟨le_refl _, Nat.lt_succ_self _⟩
    ⟨by show 512 * ((y 1).val / 512) ≤ _; omega, by show _ < 512 * ((y 1).val / 512) + 512; omega⟩ ⟨Nat.zero_le _, by omega⟩⟩

theorem proj_row (s : Fin 2) (k : Fin 8) (r : Fin 512) (c : Fin 256) :
    ((projPiece arg1 harg1 arg2 harg2 x0 x1 s k).1.emb (ix2 r c) 0).val = 512 * k.val + r.val :=
  ValueKit.rect_emb_unit_val (s := S4096x256) ![512 * k.val, 0] S512x256.size (inb2 (by omega) (by omega)) (ix2 r c) 0

theorem proj_col (s : Fin 2) (k : Fin 8) (r : Fin 512) (c : Fin 256) :
    ((projPiece arg1 harg1 arg2 harg2 x0 x1 s k).1.emb (ix2 r c) 1).val = c.val :=
  (ValueKit.rect_emb_unit_val (s := S4096x256) ![512 * k.val, 0] S512x256.size (inb2 (by omega) (by omega)) (ix2 r c) 1).trans (Nat.zero_add _)

theorem proj_agree (s : Fin 2) (k : Fin 8) (x) : (projPiece arg1 harg1 arg2 harg2 x0 x1 s k).2 x
    = xz x0 x1 s (((projPiece arg1 harg1 arg2 harg2 x0 x1 s k).1.emb x) 0) (((projPiece arg1 harg1 arg2 harg2 x0 x1 s k).1.emb x) 1) := by
  change (⟨2, ![512, 256]⟩ : Shape).Idx at x
  rw [ix2_self x]
  refine (proj_apply _ _ _ _).trans (Finset.sum_congr rfl fun i _ => ?_)
  refine congrArg₂ (· * ·) ((rd_unread _ _ _ _ _).trans (congrArg x0 (idx3_ext ?_ ?_ ?_))) ((rd_whole arg2 harg2 x1 _ _ _).trans (congrArg x1 (idx2_ext rfl ?_)))
  · exact unit_idx_val _ _ _ _ 0
  · exact (unit_idx_val _ _ _ _ 1).trans (proj_row arg1 harg1 arg2 harg2 x0 x1 s k _ _).symm
  · exact (unit_idx_val _ _ _ _ 2).trans (Nat.zero_add _)
  · exact (proj_col arg1 harg1 arg2 harg2 x0 x1 s k _ _).symm

theorem projL_canon (s : Fin 2) (y : S4096x256.Idx) : View.canon (projL arg1 harg1 arg2 harg2 x0 x1 s) y = xz x0 x1 s (y 0) (y 1) := by
  refine streams_canon (projPiece arg1 harg1 arg2 harg2 x0 x1) (fun s y => xz x0 x1 s (y 0) (y 1)) (proj_agree arg1 harg1 arg2 harg2 x0 x1) s y ?_
  have h0 : (y 0).val < 4096 := (y 0).isLt
  have h1 : (y 1).val < 256 := (y 1).isLt
  exact ⟨⟨(y 0).val / 512, by omega⟩, mem_unit2 (inb2 (by omega) (by omega)) y ⟨by show 512 * ((y 0).val / 512) ≤ _; omega, by show _ < 512 * ((y 0).val / 512) + 512; omega⟩
    ⟨Nat.zero_le _, by omega⟩⟩

theorem aux_apply (j : Fin 8) (d : Fin 128) : auxRow arg7 harg7 x6 j (ix2 0 d) = x6 (ix2 j d) := by
  unfold auxRow
  generalize hM : View.readAt (Elt Ideal) arg7.view _ _ = M
  have e : k0_pay914 M (ix2 0 d) = M (ix2 0 d) := by pointwise [k0_pay914]
  rw [e, ← hM]
  exact (rd_unread _ _ _ _ _).trans (congrArg x6 (idx2_ext (unit_idx_val _ _ _ _ 0) ((unit_idx_val _ _ _ _ 1).trans (Nat.zero_add _))))

theorem slice8 (M : Vec Ideal S8x256 .f32) (r : Fin 8) (z : Fin 2) (d : Fin 128) :
    extractStridedSlice S1x128 ![r.val, 128 * z.val] M (slicesRow r z) (ix2 0 d) = M (ix2 r (chan z d)) := by
  refine congrArg M (idx2_ext ?_ ?_)
  · rfl
  · rfl

theorem zrow_apply (d : Fin 128) : k0_pay921 (F := Ideal) (ix2 0 d) = 0 := by pointwise [k0_pay921]

theorem above_apply (s z : Fin 2) (k : Fin 8) (d : Fin 128) : above arg9 (projL arg1 harg1 arg2 harg2 x0 x1 s) z k (ix2 0 d)
    = if h : 0 < 512 * k.val then xz x0 x1 s ⟨512 * k.val - 1, by omega⟩ (chan z d) else 0 := by
  unfold above
  by_cases h : 0 < k.val
  · rw [if_pos h, dif_pos (by omega), slice8]
    unfold rows8
    rw [View.readCov_eq_canon']
    refine (projL_canon arg1 harg1 arg2 harg2 x0 x1 s _).trans (congrArg₂ (xz x0 x1 s) (Fin.ext ?_) (Fin.ext ?_))
    · refine (unit_idx_val _ _ _ _ 0).trans ?_
      show 512 * k.val - 8 + 7 = 512 * k.val - 1
      omega
    · exact (unit_idx_val _ _ _ _ 1).trans (Nat.zero_add _)
  · rw [if_neg h, dif_neg (by omega)]; exact zrow_apply d

theorem below_apply (s z : Fin 2) (k : Fin 8) (d : Fin 128) : below arg9 (projL arg1 harg1 arg2 harg2 x0 x1 s) z k (ix2 0 d)
    = if h : 512 * k.val + 511 < 4095 then xz x0 x1 s ⟨512 * k.val + 512, by omega⟩ (chan z d) else 0 := by
  unfold below
  by_cases h : k.val < 7
  · rw [dif_pos h, dif_pos (by omega), slice8]
    unfold rows8
    rw [View.readCov_eq_canon']
    refine (projL_canon arg1 harg1 arg2 harg2 x0 x1 s _).trans (congrArg₂ (xz x0 x1 s) (Fin.ext ?_) (Fin.ext ?_))
    · exact (unit_idx_val _ _ _ _ 0)
    · exact (unit_idx_val _ _ _ _ 1).trans (Nat.zero_add _)
  · rw [dif_neg h, dif_neg (by omega)]; exact zrow_apply d

theorem mid_apply (s z : Fin 2) (k : Fin 8) (inb) (r : Fin 512) (d : Fin 128) :
    arg9.view.readCov (projL arg1 harg1 arg2 harg2 x0 x1 s) (Rect.unit (s := S4096x256) ![512 * k.val, 128 * z.val] S512x128.size inb).toLoadRect (ix2 r d)
      = xz x0 x1 s ⟨512 * k.val + r, by omega⟩ (chan z d) := by
  rw [View.readCov_eq_canon']
  exact (projL_canon arg1 harg1 arg2 harg2 x0 x1 s _).trans (congrArg₂ (xz x0 x1 s) (Fin.ext (unit_idx_val _ _ _ _ 0)) (Fin.ext (unit_idx_val _ _ _ _ 1)))

theorem conv_chunk (s z : Fin 2) (k : Fin 8) (inb) (r : Fin 512) (d : Fin 128) :
    convC (auxRow arg7 harg7 x6 ⟨3 * z.val, by omega⟩) (auxRow arg7 harg7 x6 ⟨3 * z.val + 1, by omega⟩)
      (auxRow arg7 harg7 x6 ⟨3 * z.val + 2, by omega⟩) (above arg9 (projL arg1 harg1 arg2 harg2 x0 x1 s) z k)
      (arg9.view.readCov (projL arg1 harg1 arg2 harg2 x0 x1 s) (Rect.unit (s := S4096x256) ![512 * k.val, 128 * z.val] S512x128.size inb).toLoadRect)
      (below arg9 (projL arg1 harg1 arg2 harg2 x0 x1 s) z k) (ix2 r d)
    = cv x0 x1 x6 z s ⟨512 * k.val + r, by omega⟩ d := by
  rw [conv_apply]
  unfold cv
  rw [aux_apply, aux_apply, aux_apply, mid_apply, above_apply, below_apply]
  refine congrArg₂ (· + ·) (congrArg₂ (· + ·) (congrArg (_ * ·) ?_) rfl) (congrArg (_ * ·) ?_)
  · by_cases h : r.val < 1
    · rw [dif_pos h]
      by_cases h' : 0 < 512 * k.val
      · rw [dif_pos h', dif_pos (by show 0 < 512 * k.val + r.val; omega)]
        exact congrArg (fun t => xz x0 x1 s t _) (Fin.ext (by show 512 * k.val - 1 = 512 * k.val + r.val - 1; omega))
      · rw [dif_neg h', dif_neg (by show ¬ 0 < 512 * k.val + r.val; omega)]
    · rw [dif_neg h, dif_pos (by show 0 < 512 * k.val + r.val; omega)]
      refine (mid_apply arg1 harg1 arg2 harg2 arg9 x0 x1 s z k inb _ d).trans ?_
      exact congrArg (fun t => xz x0 x1 s t _) (Fin.ext (by show 512 * k.val + (r.val - 1) = 512 * k.val + r.val - 1; omega))
  · by_cases h : r.val < 511
    · rw [dif_pos h, dif_pos (by show 512 * k.val + r.val < 4095; omega)]
      exact mid_apply arg1 harg1 arg2 harg2 arg9 x0 x1 s z k inb _ d
    · rw [dif_neg h]
      by_cases h' : 512 * k.val + 511 < 4095
      · rw [dif_pos h', dif_pos (by show 512 * k.val + r.val < 4095; omega)]
        exact congrArg (fun t => xz x0 x1 s t _) (Fin.ext (by show 512 * k.val + 512 = 512 * k.val + r.val + 1; omega))
      · rw [dif_neg h', dif_neg (by show ¬ 512 * k.val + r.val < 4095; omega)]

theorem emb3 {o0 o1 o2 a0 a1 a2 b0 b1 b2 : Nat} (inb) (i0 : Fin a0) (i1 : Fin a1) (i2 : Fin a2) (y0 : Fin b0) (y1 : Fin b1) (y2 : Fin b2)
    (h0 : o0 + i0.val = y0.val) (h1 : o1 + i1.val = y1.val) (h2 : o2 + i2.val = y2.val) :
    (Rect.unit (s := ⟨3, ![b0, b1, b2]⟩) ![o0, o1, o2] ![a0, a1, a2] inb).emb (ix3 i0 i1 i2) = ix3 y0 y1 y2 :=
  idx3_ext ((ValueKit.rect_emb_unit_val _ _ inb _ 0).trans h0) ((ValueKit.rect_emb_unit_val _ _ inb _ 1).trans h1)
    ((ValueKit.rect_emb_unit_val _ _ inb _ 2).trans h2)

theorem ix3_one {b c : Nat} (x : (⟨3, ![1, b, c]⟩ : Shape).Idx) : x = ix3 0 (x 1) (x 2) :=
  idx3_ext (by have h : (x 0).val < 1 := (x 0).isLt; show (x 0).val = 0; omega) rfl rfl

/-- The time at row `r` of chunk `k`. -/
def time (k : Fin 8) (r : Fin 512) : Fin 4096 := ⟨512 * k.val + r.val, by omega⟩

/-- A chunk's store is a block of `G` when its rows are `G`'s. -/
theorem rows_agree {n : Nat} (G : (⟨3, ![2, 4096, n]⟩ : Shape).Idx → EReal) (s : Fin 2) (k : Fin 8) (inb)
    (V : (⟨3, ![1, 512, n]⟩ : Shape).Idx → EReal) (hV : ∀ r d, V (ix3 0 r d) = G (ix3 s (time k r) d)) (x : (⟨3, ![1, 512, n]⟩ : Shape).Idx) :
    V x = G ((Rect.unit (s := ⟨3, ![2, 4096, n]⟩) ![s.val, 512 * k.val, 0] ![1, 512, n] inb).emb x) := by
  rw [ix3_one x]
  exact (hV _ _).trans (congrArg G (emb3 inb 0 (x 1) (x 2) s (time k (x 1)) (x 2) rfl rfl (Nat.zero_add _)).symm)

theorem conv_agree (z s : Fin 2) (k : Fin 8) (x) : (convP arg1 harg1 arg2 harg2 arg7 harg7 arg9 x0 x1 x6 z s k).2 x
    = act x0 x1 x6 z ((convP arg1 harg1 arg2 harg2 arg7 harg7 arg9 x0 x1 x6 z s k).1.emb x 0)
      ((convP arg1 harg1 arg2 harg2 arg7 harg7 arg9 x0 x1 x6 z s k).1.emb x 1) ((convP arg1 harg1 arg2 harg2 arg7 harg7 arg9 x0 x1 x6 z s k).1.emb x 2) := by
  refine rows_agree (n := 128) (fun y => act x0 x1 x6 z (y 0) (y 1) (y 2)) s k (inb3 (by omega) (by omega) (by omega)) _ (fun r d => ?_) x
  refine (silu_apply _ r d).trans ?_
  rw [conv_chunk arg1 harg1 arg2 harg2 arg7 harg7 arg9 x0 x1 x6 s z k _ r d]
  rfl

theorem xfL_canon (s : Fin 2) (t : Fin 4096) (d : Fin 128) :
    View.canon (xfL arg1 harg1 arg2 harg2 arg7 harg7 arg9 x0 x1 x6 s) (ix3 s t d) = act x0 x1 x6 0 s t d := by
  refine streams_canon (convP arg1 harg1 arg2 harg2 arg7 harg7 arg9 x0 x1 x6 0) (fun _ y => act x0 x1 x6 0 (y 0) (y 1) (y 2))
    (conv_agree arg1 harg1 arg2 harg2 arg7 harg7 arg9 x0 x1 x6 0) s (ix3 s t d) ?_
  obtain ⟨k, h⟩ := chunk_mem s (ix3 s t d) rfl
  exact ⟨k, h (inb3 (by omega) (by omega) (by omega))⟩

theorem act_canon (z s : Fin 2) (t : Fin 4096) (d : Fin 128) :
    View.canon (both (convP arg1 harg1 arg2 harg2 arg7 harg7 arg9 x0 x1 x6 z)) (ix3 s t d) = act x0 x1 x6 z s t d := by
  refine both_canon (convP arg1 harg1 arg2 harg2 arg7 harg7 arg9 x0 x1 x6 z) (fun y => act x0 x1 x6 z (y 0) (y 1) (y 2))
    (conv_agree arg1 harg1 arg2 harg2 arg7 harg7 arg9 x0 x1 x6 z) (ix3 s t d) ?_
  obtain ⟨k, h⟩ := chunk_mem s (ix3 s t d) rfl
  exact ⟨s, k, h (inb3 (by omega) (by omega) (by omega))⟩

theorem chunk_apply (X : List (View.Piece (Elt Ideal) S2x4096x128 .f32)) (M : Memref sig .tc .vmem S2x4096x128 .f32) (s : Fin 2) (k : Fin 8)
    (r : Fin 512) (d : Fin 128) : chunkOf X M s k (ix3 0 r d) = View.canon X (ix3 s (time k r) d) := by
  unfold chunkOf
  rw [View.readCov_eq_canon']
  exact congrArg (View.canon X) (idx3_ext (unit_idx_val _ _ _ _ 0) (unit_idx_val _ _ _ _ 1) ((unit_idx_val _ _ _ _ 2).trans (Nat.zero_add _)))

theorem cast_apply (v : FVec Ideal S512x128 .f32) (r : Fin 512) (d : Fin 128) :
    shapeCast S1x512x128 v shapeCasts_S512x128_S1x512x128 (ix3 0 r d) = v (ix2 r d) := by pointwise []

theorem mul_cast_apply (v : FVec Ideal S512x128 .f32) (U : Vec Ideal S1x512x128 .f32) (r : Fin 512) (d : Fin 128) :
    shapeCast S1x512x128 (mulf v (k0_pay959 U)) shapeCasts_S512x128_S1x512x128 (ix3 0 r d) = v (ix2 r d) * U (ix3 0 r d) := by
  pointwise [k0_pay959]

theorem step_apply (s : Fin 2) (k : Fin 8) (r : Fin 512) (d : Fin 128) :
    dlC (auxRow arg7 harg7 x6 6) (chunkOf (xfL arg1 harg1 arg2 harg2 arg7 harg7 arg9 x0 x1 x6 s) arg10 s k) (wdl arg3 harg3 x2) (ix2 r d)
      = softcut (dpre x0 x1 x2 x6 s (time k r) d) := by
  refine (dl_chunk_apply _ _ _ _ _).trans (congrArg softcut ?_)
  refine congrArg₂ (· + ·) (Finset.sum_congr rfl fun i _ => congrArg₂ (· * ·) ?_ ?_) (aux_apply arg7 harg7 x6 6 d)
  · exact (chunk_apply _ _ _ _ _ _).trans (xfL_canon arg1 harg1 arg2 harg2 arg7 harg7 arg9 x0 x1 x6 s _ _)
  · exact rd_whole arg3 harg3 x2 _ _ _

theorem dl_read : View.canon (both (dlP arg1 harg1 arg2 harg2 arg3 harg3 arg7 harg7 arg9 arg10 x0 x1 x2 x6)) = dlF x0 x1 x2 x6 := by
  refine funext fun y => both_canon _ (dlF x0 x1 x2 x6) (fun s k x => ?_) y ?_
  · refine rows_agree (dlF x0 x1 x2 x6) s k (inb3 (by omega) (by omega) (by omega)) _ (fun r d => ?_) x
    exact (cast_apply _ r d).trans (step_apply arg1 harg1 arg2 harg2 arg3 harg3 arg7 harg7 arg9 arg10 x0 x1 x2 x6 s k r d)
  · obtain ⟨k, h⟩ := chunk_mem (y 0) y rfl
    exact ⟨y 0, k, h (inb3 (by have h : (y 0).val < 2 := (y 0).isLt; omega) (by omega) (by omega))⟩

theorem dx_read : View.canon (both (dxP arg1 harg1 arg2 harg2 arg3 harg3 arg7 harg7 arg9 arg10 x0 x1 x2 x6)) = dxF x0 x1 x2 x6 := by
  refine funext fun y => both_canon _ (dxF x0 x1 x2 x6) (fun s k x => ?_) y ?_
  · refine rows_agree (dxF x0 x1 x2 x6) s k (inb3 (by omega) (by omega) (by omega)) _ (fun r d => ?_) x
    refine (mul_cast_apply _ _ r d).trans (congrArg₂ (· * ·) (step_apply arg1 harg1 arg2 harg2 arg3 harg3 arg7 harg7 arg9 arg10 x0 x1 x2 x6 s k r d) ?_)
    exact (chunk_apply _ _ _ _ _ _).trans (xfL_canon arg1 harg1 arg2 harg2 arg7 harg7 arg9 x0 x1 x6 s _ _)
  · obtain ⟨k, h⟩ := chunk_mem (y 0) y rfl
    exact ⟨y 0, k, h (inb3 (by have h : (y 0).val < 2 := (y 0).isLt; omega) (by omega) (by omega))⟩

theorem bc_agree (s : Fin 2) (k : Fin 8) (n : Fin 32) (r : Fin 512) :
    k0_pay966 (k0_pay959 (chunkOf (xfL arg1 harg1 arg2 harg2 arg7 harg7 arg9 x0 x1 x6 s) arg10 s k))
      (View.readAt (Elt Ideal) arg4.view (Rect.unit (s := S32x128) ![0, 0] S32x128.size inb_S32x128_S32x128_0_0).toLoadRect (harg4.unread x3)) (ix3 0 n r)
      = bcF x0 x1 x3 x6 (ix3 s n (time k r)) := by
  refine (bc_apply _ _ _ _).trans (Finset.sum_congr rfl fun i _ => congrArg₂ (· * ·) (rd_whole arg4 harg4 x3 _ _ _) ?_)
  exact (chunk_apply _ _ _ _ _ _).trans (xfL_canon arg1 harg1 arg2 harg2 arg7 harg7 arg9 x0 x1 x6 s _ _)

theorem bc_read : View.canon (both (bcP arg1 harg1 arg2 harg2 arg4 harg4 arg7 harg7 arg9 arg10 x0 x1 x3 x6)) = bcF x0 x1 x3 x6 := by
  refine funext fun y => both_canon _ (bcF x0 x1 x3 x6) (fun s k x => ?_) y ?_
  · change (⟨3, ![1, 32, 512]⟩ : Shape).Idx at x
    rw [ix3_one x]
    refine (bc_agree arg1 harg1 arg2 harg2 arg4 harg4 arg7 harg7 arg9 arg10 x0 x1 x3 x6 s k (x 1) (x 2)).trans ?_
    exact congrArg (bcF x0 x1 x3 x6) (emb3 (o0 := s.val) (o1 := 0) (o2 := 512 * k.val) (a0 := 1) (a1 := 32) (a2 := 512) (b0 := 2) (b1 := 32) (b2 := 4096)
      (inb3 (by omega) (by omega) (by omega)) 0 (x 1) (x 2) s (x 1) (time k (x 2)) rfl (Nat.zero_add _) rfl).symm
  · have h0 : (y 0).val < 2 := (y 0).isLt
    have h1 : (y 1).val < 32 := (y 1).isLt
    have h2 : (y 2).val < 4096 := (y 2).isLt
    exact ⟨y 0, ⟨(y 2).val / 512, by omega⟩, mem_unit3 (inb3 (by omega) (by omega) (by omega)) y ⟨le_refl _, Nat.lt_succ_self _⟩ ⟨Nat.zero_le _, by omega⟩
      ⟨by show 512 * ((y 2).val / 512) ≤ _; omega, by show _ < 512 * ((y 2).val / 512) + 512; omega⟩⟩

theorem rates_eq : rates arg6 harg6 x5 = x5 := by
  funext x
  rw [ix2_self x]
  unfold rates
  generalize hM : View.readAt (Elt Ideal) arg6.view _ _ = M
  have e : k0_pay1108 M (ix2 (x 0) (x 1)) = M (ix2 (x 0) (x 1)) := by pointwise [k0_pay1108]
  refine e.trans ?_
  rw [← hM]
  exact rd_whole arg6 harg6 x5 _ _ _

/-- What the scan leaves: its outputs, stream `s` in the columns of half `s`. -/
theorem scan_canon (s : Fin 2) (t : Fin 4096) (d : Fin 128) :
    View.canon (scanL arg1 harg1 arg2 harg2 arg3 harg3 arg4 harg4 arg6 harg6 arg7 harg7 arg9 arg10 arg12 arg13 arg14 arg15 x0 x1 x2 x3 x5 x6
      ++ both (projPiece arg1 harg1 arg2 harg2 x0 x1)) (ix2 t (chan s d)) = yF x0 x1 x2 x3 x5 x6 s t d := by
  have h := st_apply (rates arg6 harg6 x5) arg12 arg13 arg14 arg15
    (arg12.view.writes (Elt Ideal) arg12.view.junk (both (dlP arg1 harg1 arg2 harg2 arg3 harg3 arg7 harg7 arg9 arg10 x0 x1 x2 x6)))
    (arg13.view.writes (Elt Ideal) arg13.view.junk (both (dxP arg1 harg1 arg2 harg2 arg3 harg3 arg7 harg7 arg9 arg10 x0 x1 x2 x6)))
    (arg14.view.writes (Elt Ideal) arg14.view.junk (both (bcP arg1 harg1 arg2 harg2 arg4 harg4 arg7 harg7 arg9 arg10 x0 x1 x3 x6)))
    (iota .tc S8x128 32 [0] iota_S8x128_d0_w32) rfl (Scf.trips k0_t1_loop.lb k0_t1_loop.ub k0_t1_loop.st) (le_refl _)
  obtain ⟨-, -, hp, hm⟩ := h
  rw [View.read_writes_junk_eq_canon, View.read_writes_junk_eq_canon, View.read_writes_junk_eq_canon,
    dl_read arg1 harg1 arg2 harg2 arg3 harg3 arg7 harg7 arg9 arg10 x0 x1 x2 x6, dx_read arg1 harg1 arg2 harg2 arg3 harg3 arg7 harg7 arg9 arg10 x0 x1 x2 x6,
    bc_read arg1 harg1 arg2 harg2 arg4 harg4 arg7 harg7 arg9 arg10 x0 x1 x3 x6] at hp
  refine (View.canon_append_of_pieces (yAt (rates arg6 harg6 x5) (dlF x0 x1 x2 x6) (dxF x0 x1 x2 x6) (bcF x0 x1 x3 x6)) _ _ hp (ix2 t (chan s d)) ?_).trans ?_
  · refine hm (ix2 t (chan s d)) ?_
    have e : Scf.trips k0_t1_loop.lb k0_t1_loop.ub k0_t1_loop.st = 32 := by decide
    rw [e]
    exact t.isLt
  · rw [rates_eq]
    unfold yAt yF
    congr 1
    · exact Fin.ext (by show (128 * s.val + d.val) / 128 = s.val; omega)
    · exact Fin.ext (by show (128 * s.val + d.val) % 128 = d.val; omega)

theorem out_agree (s : Fin 2) (k : Fin 8) (x) :
    (outP arg1 harg1 arg2 harg2 arg3 harg3 arg4 harg4 arg5 harg5 arg6 harg6 arg7 harg7 arg9 arg10 arg11 arg12 arg13 arg14 arg15
          x0 x1 x2 x3 x4 x5 x6 s k).2 x
      = outF x0 x1 x2 x3 x4 x5 x6 ((outP arg1 harg1 arg2 harg2 arg3 harg3 arg4 harg4 arg5 harg5 arg6 harg6 arg7 harg7 arg9 arg10 arg11 arg12 arg13 arg14 arg15
          x0 x1 x2 x3 x4 x5 x6 s k).1.emb x) := by
  refine rows_agree (outF x0 x1 x2 x3 x4 x5 x6) s k (inb3 (by omega) (by omega) (by omega)) _ (fun r c => ?_) x
  refine (out_apply _ _ _ _ _ r c).trans (Finset.sum_congr rfl fun i _ => congrArg₂ (· * ·) ?_ (rd_whole arg5 harg5 x4 _ _ _))
  by_cases h : i.val < 128
  · rw [dif_pos h, dif_pos h]
    refine congrArg₂ (· + ·) ?_ (congrArg₂ (· * ·) ?_ (aux_apply arg7 harg7 x6 7 _))
    · rw [View.readCov_eq_canon']
      refine (congrArg (View.canon _) (idx2_ext ?_ ?_)).trans
        (scan_canon arg1 harg1 arg2 harg2 arg3 harg3 arg4 harg4 arg6 harg6 arg7 harg7 arg9 arg10 arg12 arg13 arg14 arg15 x0 x1 x2 x3 x5 x6 s (time k r) ⟨i, h⟩)
      · exact unit_idx_val _ _ _ _ 0
      · exact unit_idx_val _ _ _ _ 1
    · exact (chunk_apply _ _ _ _ _ _).trans (act_canon arg1 harg1 arg2 harg2 arg7 harg7 arg9 x0 x1 x6 0 s _ _)
  · rw [dif_neg h, dif_neg h]
    exact (chunk_apply _ _ _ _ _ _).trans (act_canon arg1 harg1 arg2 harg2 arg7 harg7 arg9 x0 x1 x6 1 s _ _)

theorem out_canon :
    View.canon (both (outP arg1 harg1 arg2 harg2 arg3 harg3 arg4 harg4 arg5 harg5 arg6 harg6 arg7 harg7 arg9 arg10 arg11 arg12 arg13 arg14 arg15
          x0 x1 x2 x3 x4 x5 x6)) = outF x0 x1 x2 x3 x4 x5 x6 := by
  refine funext fun y => both_canon _ (outF x0 x1 x2 x3 x4 x5 x6)
    (out_agree arg1 harg1 arg2 harg2 arg3 harg3 arg4 harg4 arg5 harg5 arg6 harg6 arg7 harg7 arg9 arg10 arg11 arg12 arg13 arg14 arg15 x0 x1 x2 x3 x4 x5 x6) y ?_
  obtain ⟨k, h⟩ := chunk_mem (y 0) y rfl
  exact ⟨y 0, k, h (inb3 (by have h : (y 0).val < 2 := (y 0).isLt; omega) (by omega) (by omega))⟩

end blocks

end Cert.KernelIdeal.Scan

end
-- ==== Proof.KernelIdealValue.lean ====
/- What the program `KernelIdeal` ends with, at the extended reals: its two result arrays at an index, as functions of the argument
   arrays. -/
module

public import proofs.«01_k».proof.Proof.KernelIdealFrame
public import proofs.«01_k».proof.Proof.KernelIdealBlock
public import proofs.«01_k».proof.Proof.Model
public import Idealize.ShloMosaic.Lib.Pipeline.Value
public import Idealize.ShloMosaic.Lib.Pointwise

@[expose] public section

noncomputable section

namespace Cert.KernelIdeal.Scan

open Idealize.ShloMosaic Idealize.ShloMosaic.TcCoe Cert.KernelIdeal Cert.KernelIdeal.Gen Idealize.SL.Sem
open Idealize.ShloMosaic.Pipeline (Dat)

variable (m : (ℓ : Loc nD τ sig) → Buf (Elt Ideal) ℓ) (ρ : Dev nD → PrngReg)

/-! ## The operands as the region finds them -/

theorem V_v0 (c : Dev nD) : V m c main_v0 = concatenate S8x4096x256 0
    [⟨S4x4096x256, m ((c.tc : Thread nD τ).loc main_arg0)⟩, ⟨S4x4096x256, m ((c.tc : Thread nD τ).loc main_arg1)⟩]
    concatenates_S4x4096x256_S4x4096x256_S8x4096x256_d0 := by
  show StableHlo.after hostOps0 (fun b => m (c, b)) (Proc.devRef .tc main_v0) = _
  after_results

theorem V_v1 (c : Dev nD) : V m c main_v1 = transpose S256x256 [1, 0] (m ((c.tc : Thread nD τ).loc main_arg2)) transposes_S256x256_S256x256_1_0 := by
  show StableHlo.after hostOps0 (fun b => m (c, b)) (Proc.devRef .tc main_v1) = _
  after_results

theorem V_v5 (c : Dev nD) : V m c main_v5 = Host.dotGeneral (F := Ideal) (φ₁ := .f32) (φ₂ := .f32) dot_S128x16_S16x128_S128x128_1_0_0_1_n_n (some .fp32)
    (transpose S128x16 [1, 0] (extractStridedSlice S16x128 ![0, 0] (m ((c.tc : Thread nD τ).loc main_arg5)) slices_S48x128_S16x128_0_0) transposes_S16x128_S128x16_1_0)
    (transpose S16x128 [1, 0] (m ((c.tc : Thread nD τ).loc main_arg6)) transposes_S128x16_S16x128_1_0) := by
  show StableHlo.after hostOps0 (fun b => m (c, b)) (Proc.devRef .tc main_v5) = _
  after_results

theorem V_v6 (c : Dev nD) : V m c main_v6 = extractStridedSlice S32x128 ![16, 0] (m ((c.tc : Thread nD τ).loc main_arg5)) slices_S48x128_S32x128_16_0 := by
  show StableHlo.after hostOps0 (fun b => m (c, b)) (Proc.devRef .tc main_v6) = _
  after_results

theorem V_v7 (c : Dev nD) : V m c main_v7 = transpose S256x256 [1, 0] (m ((c.tc : Thread nD τ).loc main_arg10)) transposes_S256x256_S256x256_1_0 := by
  show StableHlo.after hostOps0 (fun b => m (c, b)) (Proc.devRef .tc main_v7) = _
  after_results

theorem V_v10 (c : Dev nD) : V m c main_v10 = Host.negf (F := Ideal) (φ := .f32) (transpose S16x128 [1, 0] (Host.exp (F := Ideal) (φ := .f32) (m ((c.tc : Thread nD τ).loc main_arg8))) transposes_S128x16_S16x128_1_0) := by
  show StableHlo.after hostOps0 (fun b => m (c, b)) (Proc.devRef .tc main_v10) = _
  after_results

/-- One row of the small operands, from column `j` of the taps. -/
def tapRow (w : Vec Ideal S128x1x3 .f32) (j : Nat) (h : S128x1x3.Slices ![0, 0, j] S128x1x1) : Vec Ideal S1x128 .f32 :=
  broadcastInDim S1x128 ![1] bcast_S128_S1x128_1 (shapeCast S128 (extractStridedSlice S128x1x1 ![0, 0, j] w h) shapeCasts_S128x1x1_S128)

theorem V_v31 (c : Dev nD) : V m c main_v31 = concatenate S8x128 0
    [⟨S1x128, tapRow (m ((c.tc : Thread nD τ).loc main_arg3)) 0 slices_S128x1x3_S128x1x1_0_0_0⟩,
     ⟨S1x128, tapRow (m ((c.tc : Thread nD τ).loc main_arg3)) 1 slices_S128x1x3_S128x1x1_0_0_1⟩,
     ⟨S1x128, tapRow (m ((c.tc : Thread nD τ).loc main_arg3)) 2 slices_S128x1x3_S128x1x1_0_0_2⟩,
     ⟨S1x128, tapRow (m ((c.tc : Thread nD τ).loc main_arg4)) 0 slices_S128x1x3_S128x1x1_0_0_0⟩,
     ⟨S1x128, tapRow (m ((c.tc : Thread nD τ).loc main_arg4)) 1 slices_S128x1x3_S128x1x1_0_0_1⟩,
     ⟨S1x128, tapRow (m ((c.tc : Thread nD τ).loc main_arg4)) 2 slices_S128x1x3_S128x1x1_0_0_2⟩,
     ⟨S1x128, broadcastInDim S1x128 ![1] bcast_S128_S1x128_1 (m ((c.tc : Thread nD τ).loc main_arg7))⟩,
     ⟨S1x128, broadcastInDim S1x128 ![1] bcast_S128_S1x128_1 (m ((c.tc : Thread nD τ).loc main_arg9))⟩]
    concatenates_S1x128_S1x128_S1x128_S1x128_S1x128_S1x128_S1x128_S1x128_S8x128_d0 := by
  show StableHlo.after hostOps0 (fun b => m (c, b)) (Proc.devRef .tc main_v31) = _
  after_results
  rfl

/-! ## The operands at an index -/

/-- The weights of core `c`, from its argument arrays. -/
def wts (c : Dev nD) : Model.Weights where
  W e k := m ((c.tc : Thread nD τ).loc main_arg2) (ix2 e k)
  cx d j := m ((c.tc : Thread nD τ).loc main_arg3) (ix3 d 0 j)
  cz d j := m ((c.tc : Thread nD τ).loc main_arg4) (ix3 d 0 j)
  xp j k := m ((c.tc : Thread nD τ).loc main_arg5) (ix2 j k)
  dw d j := m ((c.tc : Thread nD τ).loc main_arg6) (ix2 d j)
  db d := m ((c.tc : Thread nD τ).loc main_arg7) (ix1 d)
  al d n := m ((c.tc : Thread nD τ).loc main_arg8) (ix2 d n)
  D d := m ((c.tc : Thread nD τ).loc main_arg9) (ix1 d)
  ow o e := m ((c.tc : Thread nD τ).loc main_arg10) (ix2 o e)

/-- Sequence `b` of the batch: of the first argument, then of the second. -/
def seqs (c : Dev nD) (b : Fin 8) (t : Fin 4096) (k : Fin 256) : EReal :=
  if h : b.val < 4 then m ((c.tc : Thread nD τ).loc main_arg0) (ix3 ⟨b, h⟩ t k)
  else m ((c.tc : Thread nD τ).loc main_arg1) (ix3 ⟨b - 4, by omega⟩ t k)

theorem at_v0 (c : Dev nD) (b : Fin 8) (t : Fin 4096) (k : Fin 256) : V m c main_v0 (ix3 b t k) = seqs m c b t k := by
  rw [V_v0]; unfold seqs
  pointwise

theorem at_v1 (c : Dev nD) (k c' : Fin 256) : V m c main_v1 (ix2 k c') = (wts m c).W c' k := by
  rw [V_v1]
  pointwise [wts]

theorem at_v5 (c : Dev nD) (k d : Fin 128) :
    V m c main_v5 (ix2 k d) = ∑ j : Fin 16, (wts m c).xp ⟨j, by omega⟩ k * (wts m c).dw d j := by
  rw [V_v5]
  pointwise [wts]

theorem at_v6 (c : Dev nD) (n : Fin 32) (k : Fin 128) : V m c main_v6 (ix2 n k) = (wts m c).xp ⟨16 + n, by omega⟩ k := by
  rw [V_v6]
  pointwise [wts]

theorem at_v7 (c : Dev nD) (k o : Fin 256) : V m c main_v7 (ix2 k o) = (wts m c).ow o k := by
  rw [V_v7]
  pointwise [wts]

theorem at_v10 (c : Dev nD) (n : Fin 16) (d : Fin 128) : V m c main_v10 (ix2 n d) = Model.A (wts m c) d n := by
  rw [V_v10]; unfold Model.A
  pointwise [wts]

theorem tapRow_apply (w : Vec Ideal S128x1x3 .f32) (j : Nat) (hj : j < 3) (h) (z : Fin 1) (d : Fin 128) :
    tapRow w j h (ix2 z d) = w (ix3 d 0 ⟨j, hj⟩) := by
  unfold tapRow
  pointwise

theorem at_v31_cx (c : Dev nD) (j : Fin 3) (d : Fin 128) : V m c main_v31 (ix2 ⟨j, by omega⟩ d) = (wts m c).cx d j := by
  rw [V_v31]
  match j with
  | ⟨0, _⟩ => pointwise [wts, tapRow_apply]
  | ⟨1, _⟩ => pointwise [wts, tapRow_apply]
  | ⟨2, _⟩ => pointwise [wts, tapRow_apply]

theorem at_v31_cz (c : Dev nD) (j : Fin 3) (d : Fin 128) : V m c main_v31 (ix2 ⟨3 + j, by omega⟩ d) = (wts m c).cz d j := by
  rw [V_v31]
  match j with
  | ⟨0, _⟩ => pointwise [wts, tapRow_apply]
  | ⟨1, _⟩ => pointwise [wts, tapRow_apply]
  | ⟨2, _⟩ => pointwise [wts, tapRow_apply]

theorem at_v31_db (c : Dev nD) (d : Fin 128) : V m c main_v31 (ix2 6 d) = (wts m c).db d := by
  rw [V_v31]
  pointwise [wts]

theorem at_v31_D (c : Dev nD) (d : Fin 128) : V m c main_v31 (ix2 7 d) = (wts m c).D d := by
  rw [V_v31]
  pointwise [wts]

/-! ## The block's function is the mixer of its sequences -/

section mixer

variable (x0 : Vec Ideal S2x4096x256 .f32) (x1 : Vec Ideal S256x256 .f32) (x2 : Vec Ideal S128x128 .f32) (x3 : Vec Ideal S32x128 .f32)
  (x4 : Vec Ideal S256x256 .f32) (x5 : Vec Ideal S16x128 .f32) (x6 : Vec Ideal S8x128 .f32)
  (p : Model.Weights) (u : Fin 4096 → Fin 256 → EReal) (s : Fin 2)
  (h0 : ∀ t k, x0 (ix3 s t k) = u t k) (h1 : ∀ k c, x1 (ix2 k c) = p.W c k)
  (h2 : ∀ k d, x2 (ix2 k d) = ∑ j : Fin 16, p.xp ⟨j, by omega⟩ k * p.dw d j)
  (h3 : ∀ n k, x3 (ix2 n k) = p.xp ⟨16 + n, by omega⟩ k) (h4 : ∀ k o, x4 (ix2 k o) = p.ow o k)
  (h5 : ∀ n d, x5 (ix2 n d) = Model.A p d n) (h6x : ∀ (j : Fin 3) d, x6 (ix2 ⟨j, by omega⟩ d) = p.cx d j)
  (h6z : ∀ (j : Fin 3) d, x6 (ix2 ⟨3 + j, by omega⟩ d) = p.cz d j) (h6b : ∀ d, x6 (ix2 6 d) = p.db d) (h6D : ∀ d, x6 (ix2 7 d) = p.D d)

include h0 h1 in
theorem xz_model (t : Fin 4096) (c : Fin 256) : xz x0 x1 s t c = Model.proj p u t c :=
  Finset.sum_congr rfl fun k _ => by rw [h0, h1]

include h0 h1 h6x in
theorem act0_model (t : Fin 4096) (d : Fin 128) : act x0 x1 x6 0 s t d = Model.xf p u t d := by
  have e : cv x0 x1 x6 0 s t d = Model.conv p.cx (fun t d => Model.proj p u t (Model.chX d)) t d := by
    unfold cv Model.conv
    rw [← h6x, ← h6x, ← h6x]
    simp only [xz_model x0 x1 p u s h0 h1]
    have ec : chan 0 d = Model.chX d := Fin.ext (by show 128 * 0 + d.val = d.val; omega)
    rw [ec]; rfl
  unfold act Model.xf Model.silu; rw [e]

include h0 h1 h6z in
theorem act1_model (t : Fin 4096) (d : Fin 128) : act x0 x1 x6 1 s t d = Model.zf p u t d := by
  have e : cv x0 x1 x6 1 s t d = Model.conv p.cz (fun t d => Model.proj p u t (Model.chZ d)) t d := by
    unfold cv Model.conv
    rw [← h6z, ← h6z, ← h6z]
    simp only [xz_model x0 x1 p u s h0 h1]
    have ec : chan 1 d = Model.chZ d := Fin.ext (by show 128 * 1 + d.val = 128 + d.val; omega)
    rw [ec]; rfl
  unfold act Model.zf Model.silu; rw [e]

include h0 h1 h2 h6x h6b in
theorem dl_model (t : Fin 4096) (d : Fin 128) : softcut (dpre x0 x1 x2 x6 s t d) = Model.dlK p u t d := by
  unfold Model.dlK Model.preK dpre
  simp only [act0_model x0 x1 x6 p u s h0 h1 h6x, h2, h6b]

include h0 h1 h3 h6x in
theorem bc_model (t : Fin 4096) (n : Fin 32) :
    bcF x0 x1 x3 x6 (ix3 s n t) = ∑ k : Fin 128, Model.xf p u t k * p.xp ⟨16 + n, by omega⟩ k := by
  unfold bcF
  refine Finset.sum_congr rfl fun k _ => ?_
  show x3 (ix2 n k) * act x0 x1 x6 0 s t k = _
  rw [act0_model x0 x1 x6 p u s h0 h1 h6x, h3, mul_comm]

include h0 h1 h2 h3 h5 h6x h6b in
theorem h_model (n : Fin 16) (d : Fin 128) (t : ℕ) :
    hseq x5 (dlF x0 x1 x2 x6) (dxF x0 x1 x2 x6) (bcF x0 x1 x3 x6) s n d t = Model.h p u (Model.dlK p u) d n t := by
  induction t with
  | zero => rfl
  | succ t ih =>
    unfold hseq Model.h
    by_cases ht : t < 4096
    · rw [dif_pos ht, dif_pos ht, ih, h5, bc_model x0 x1 x3 x6 p u s h0 h1 h3 h6x]
      have e1 : dlF x0 x1 x2 x6 (ix3 s ⟨t, ht⟩ d) = Model.dlK p u ⟨t, ht⟩ d := dl_model x0 x1 x2 x6 p u s h0 h1 h2 h6x h6b _ _
      have e2 : dxF x0 x1 x2 x6 (ix3 s ⟨t, ht⟩ d) = Model.dlK p u ⟨t, ht⟩ d * Model.xf p u ⟨t, ht⟩ d :=
        congrArg₂ (· * ·) (dl_model x0 x1 x2 x6 p u s h0 h1 h2 h6x h6b _ _) (act0_model x0 x1 x6 p u s h0 h1 h6x _ _)
      rw [e1, e2, mul_comm (Model.A p d n)]; rfl
    · rw [dif_neg ht, dif_neg ht]

include h0 h1 h2 h3 h4 h5 h6x h6z h6b h6D in
theorem out_model (t : Fin 4096) (o : Fin 256) :
    outF x0 x1 x2 x3 x4 x5 x6 (ix3 s t o) = Model.out p u (Model.dlK p u) t o := by
  unfold outF Model.out
  refine Finset.sum_congr rfl fun k _ => ?_
  refine congrArg₂ (· * ·) ?_ (h4 k o)
  by_cases hk : k.val < 128
  · rw [dif_pos hk, dif_pos hk]
    unfold Model.y yF yval
    refine congrArg₂ (· + ·) (Finset.sum_congr rfl fun n _ => ?_) (congrArg₂ (· * ·) (act0_model x0 x1 x6 p u s h0 h1 h6x _ _) (h6D _))
    refine congrArg₂ (· * ·) (h_model x0 x1 x2 x3 x5 x6 p u s h0 h1 h2 h3 h5 h6x h6b n _ _) ?_
    refine (bc_model x0 x1 x3 x6 p u s h0 h1 h3 h6x t _).trans ?_
    unfold Model.C
    refine Finset.sum_congr rfl fun k _ => ?_
    congr 2; exact Fin.ext (by show 16 + (16 + n.val) = 32 + n.val; omega)
  · rw [dif_neg hk, dif_neg hk]
    exact act1_model x0 x1 x6 p u s h0 h1 h6z _ _

end mixer

/-! ## The block of a grid point -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem lt4 (t : Fin cfg0.N) : t.val < 4 := lt_of_lt_of_eq t.isLt N_0

theorem emb0 (t : Fin cfg0.N) (s : Fin 2) (r : Fin 4096) (k : Fin 256) (b : Fin 8) (hb : b.val = 2 * t.val + s.val) :
    ((cfg0.win 0).blk t).view.emb (ix3 s r k) = (ix3 b r k : S8x4096x256.Idx) := by
  obtain ⟨e0, e1, e2⟩ := idx0 t
  refine idx3_ext ?_ ?_ ?_
  · show win0_0.index t (0 : Fin 3) * 2 + 1 * s.val = b.val; omega
  · show win0_0.index t (1 : Fin 3) * 4096 + 1 * r.val = r.val; omega
  · show win0_0.index t (2 : Fin 3) * 256 + 1 * k.val = k.val; omega

theorem emb7 (t : Fin cfg0.N) (s : Fin 2) (r : Fin 4096) (k : Fin 256) (b : Fin 8) (hb : b.val = 2 * t.val + s.val) :
    ((cfg0.win 7).blk t).view.emb (ix3 s r k) = (ix3 b r k : S8x4096x256.Idx) := by
  obtain ⟨e0, e1, e2⟩ := idx7 t
  refine idx3_ext ?_ ?_ ?_
  · show win0_7.index t (0 : Fin 3) * 2 + 1 * s.val = b.val; omega
  · show win0_7.index t (1 : Fin 3) * 4096 + 1 * r.val = r.val; omega
  · show win0_7.index t (2 : Fin 3) * 256 + 1 * k.val = k.val; omega

theorem iblk1_eq (c : Dev nD) (t : Fin cfg0.N) : iblk m c 1 t = V m c main_v1 := by
  obtain ⟨e0, e1⟩ := idx1 t
  funext j
  refine congrArg (V m c main_v1) (idx2_ext ?_ ?_)
  · show win0_1.index t (0 : Fin 2) * 256 + 1 * (j 0).val = (j 0).val; omega
  · show win0_1.index t (1 : Fin 2) * 256 + 1 * (j 1).val = (j 1).val; omega

theorem iblk2_eq (c : Dev nD) (t : Fin cfg0.N) : iblk m c 2 t = V m c main_v5 := by
  obtain ⟨e0, e1⟩ := idx2 t
  funext j
  refine congrArg (V m c main_v5) (idx2_ext ?_ ?_)
  · show win0_2.index t (0 : Fin 2) * 128 + 1 * (j 0).val = (j 0).val; omega
  · show win0_2.index t (1 : Fin 2) * 128 + 1 * (j 1).val = (j 1).val; omega

theorem iblk3_eq (c : Dev nD) (t : Fin cfg0.N) : iblk m c 3 t = V m c main_v6 := by
  obtain ⟨e0, e1⟩ := idx3 t
  funext j
  refine congrArg (V m c main_v6) (idx2_ext ?_ ?_)
  · show win0_3.index t (0 : Fin 2) * 32 + 1 * (j 0).val = (j 0).val; omega
  · show win0_3.index t (1 : Fin 2) * 128 + 1 * (j 1).val = (j 1).val; omega

theorem iblk4_eq (c : Dev nD) (t : Fin cfg0.N) : iblk m c 4 t = V m c main_v7 := by
  obtain ⟨e0, e1⟩ := idx4 t
  funext j
  refine congrArg (V m c main_v7) (idx2_ext ?_ ?_)
  · show win0_4.index t (0 : Fin 2) * 256 + 1 * (j 0).val = (j 0).val; omega
  · show win0_4.index t (1 : Fin 2) * 256 + 1 * (j 1).val = (j 1).val; omega

theorem iblk5_eq (c : Dev nD) (t : Fin cfg0.N) : iblk m c 5 t = V m c main_v10 := by
  obtain ⟨e0, e1⟩ := idx5 t
  funext j
  refine congrArg (V m c main_v10) (idx2_ext ?_ ?_)
  · show win0_5.index t (0 : Fin 2) * 16 + 1 * (j 0).val = (j 0).val; omega
  · show win0_5.index t (1 : Fin 2) * 128 + 1 * (j 1).val = (j 1).val; omega

theorem iblk6_eq (c : Dev nD) (t : Fin cfg0.N) : iblk m c 6 t = V m c main_v31 := by
  obtain ⟨e0, e1⟩ := idx6 t
  funext j
  refine congrArg (V m c main_v31) (idx2_ext ?_ ?_)
  · show win0_6.index t (0 : Fin 2) * 8 + 1 * (j 0).val = (j 0).val; omega
  · show win0_6.index t (1 : Fin 2) * 128 + 1 * (j 1).val = (j 1).val; omega

theorem iblk0_at (c : Dev nD) (t : Fin cfg0.N) (s : Fin 2) (r : Fin 4096) (k : Fin 256) (b : Fin 8) (hb : b.val = 2 * t.val + s.val) :
    iblk m c 0 t (ix3 s r k) = seqs m c b r k :=
  (congrArg (V m c main_v0) (emb0 t s r k b hb)).trans (at_v0 m c b r k)

/-- The result array as one function of the argument arrays. -/
def G (c : Dev nD) : S8x4096x256.Idx → EReal := fun y =>
  Model.out (wts m c) (seqs m c (y 0)) (Model.dlK (wts m c) (seqs m c (y 0))) (y 1) (y 2)

theorem outs_at (c : Dev nD) (t : Fin cfg0.N) (s : Fin 2) (r : Fin 4096) (o : Fin 256) (b : Fin 8) (hb : b.val = 2 * t.val + s.val) :
    outsAt0 m c t (ix3 s r o) = G m c (ix3 b r o) := by
  unfold outsAt0 out0_A_7
  rw [View.read_writes_junk_eq_canon, pieces_eq, out_canon, iblk1_eq, iblk2_eq, iblk3_eq, iblk4_eq, iblk5_eq, iblk6_eq]
  exact out_model _ _ _ _ _ _ _ (wts m c) (seqs m c b) s (fun r k => iblk0_at m c t s r k b hb) (at_v1 m c) (at_v5 m c) (at_v6 m c)
    (at_v7 m c) (at_v10 m c) (at_v31_cx m c) (at_v31_cz m c) (at_v31_db m c) (at_v31_D m c) r o

theorem flushed7 (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  funext j
  obtain ⟨s, r, o, rfl⟩ : ∃ (s : Fin 2) (r : Fin 4096) (o : Fin 256), j = (ix3 s r o : S2x4096x256.Idx) := ⟨j 0, j 1, j 2, ix3_self j⟩
  have ht := lt4 t
  refine (outs_at m c t s r o ⟨2 * t.val + s.val, by omega⟩ rfl).trans ?_
  exact (congrArg (G m c) (emb7 t s r o ⟨2 * t.val + s.val, by omega⟩ rfl)).symm

theorem covered7 (i : S8x4096x256.Idx) : ∃ t : Fin cfg0.N, (cfg0.win 7).flush t = true ∧ i ∈ ((cfg0.win 7).blk t).view.set := by
  obtain ⟨b, r, o, rfl⟩ : ∃ (b : Fin 8) (r : Fin 4096) (o : Fin 256), i = (ix3 b r o : S8x4096x256.Idx) := ⟨i 0, i 1, i 2, ix3_self i⟩
  have ht : b.val / 2 < cfg0.N := lt_of_lt_of_eq (by omega) N_0.symm
  refine ⟨⟨b.val / 2, ht⟩, flush0_7 _, ?_⟩
  have h := ((cfg0.win 7).blk (⟨b.val / 2, ht⟩ : Fin cfg0.N)).view.emb_mem_set (ix3 (⟨b.val % 2, by omega⟩ : Fin 2) r o : S2x4096x256.Idx)
  have e := emb7 (⟨b.val / 2, ht⟩ : Fin cfg0.N) ⟨b.val % 2, by omega⟩ r o b (by show b.val = 2 * (b.val / 2) + b.val % 2; omega)
  exact e ▸ h

theorem final7 (c : Dev nD) : (dats m 0 c).arrAt 7 cfg0.N = G m c :=
  (dats m 0 c).arrAt_eq_of_cover 7 (G m c) (fun t _ => flushed7 m c t) covered7

end Cert.KernelIdeal.Scan

end
-- ==== Proof.KernelIdealResult.lean ====
/- The run of the program `KernelIdeal` at the extended reals: its two results are the mixers of the sequences of its two arguments. -/
module

public import proofs.«01_k».proof.Proof.KernelIdealValue

@[expose] public section

noncomputable section

namespace Cert.KernelIdeal.Scan

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg)

theorem arrRef_inj : Function.Injective (Pipeline.arrRef spec0) := by decide

/-! ## The run -/

/-- The sequences of an argument. -/
def seq (x : Vec Ideal S4x4096x256 .f32) (b : Fin 4) (t : Fin 4096) (k : Fin 256) : EReal := x (ix3 b t k)

/-- The mixer of every sequence of an argument, with the kernel's time step. -/
def mixK (p : Model.Weights) (x : Vec Ideal S4x4096x256 .f32) : S4x4096x256.Idx → EReal := fun y =>
  Model.out p (seq x (y 0)) (Model.dlK p (seq x (y 0))) (y 1) (y 2)

theorem seqs_lo (c : Dev nD) (b : Fin 4) : seqs m c ⟨b, by omega⟩ = seq (m ((c.tc : Thread nD τ).loc main_arg0)) b :=
  funext fun t => funext fun k => dif_pos b.isLt

theorem seqs_hi (c : Dev nD) (b : Fin 4) : seqs m c ⟨4 + b, by omega⟩ = seq (m ((c.tc : Thread nD τ).loc main_arg1)) b :=
  funext fun t => funext fun k => (dif_neg (by show ¬ (4 + b.val < 4); omega)).trans
    (congrArg (fun b' : Fin 4 => m ((c.tc : Thread nD τ).loc main_arg1) (ix3 b' t k)) (Fin.ext (by show 4 + b.val - 4 = b.val; omega)))

theorem array_v32 (c : Dev nD) :
    Pipeline.withArrays spec0 c (V0 m c) (fun w => (dats m 0 c).arrAt w cfg0.N) (Proc.devRef .tc main_v32) = G m c :=
  (Pipeline.withArrays_arr spec0 arrRef_inj c (V0 m c) (fun w => (dats m 0 c).arrAt w cfg0.N) 7).trans (final7 m c)

theorem tail_v33 (c : Dev nD) : Pipeline.afterTail₀ cfgs (dats m) 0 (V0 m) [hostOps1] c main_v33
    = mixK (wts m c) (m ((c.tc : Thread nD τ).loc main_arg0)) := by
  have e := array_v32 m c
  refine Eq.trans (b := extractStridedSlice S4x4096x256 ![0, 0, 0] (G m c) slices_S8x4096x256_S4x4096x256_0_0_0) ?_ ?_
  · show StableHlo.after hostOps1 (Pipeline.withArrays spec0 c (V0 m c) fun w => (dats m 0 c).arrAt w cfg0.N) (Proc.devRef .tc main_v33) = _
    after_results
    rw [e]
  · funext y
    obtain ⟨b, r, o, rfl⟩ : ∃ (b : Fin 4) (r : Fin 4096) (o : Fin 256), y = (ix3 b r o : S4x4096x256.Idx) := ⟨y 0, y 1, y 2, ix3_self y⟩
    have h : extractStridedSlice S4x4096x256 ![0, 0, 0] (G m c) slices_S8x4096x256_S4x4096x256_0_0_0 (ix3 b r o) = G m c (ix3 (⟨b, by omega⟩ : Fin 8) r o) := by
      pointwise
    rw [h]
    show Model.out (wts m c) (seqs m c ⟨b, _⟩) (Model.dlK (wts m c) (seqs m c ⟨b, _⟩)) r o = _
    rw [seqs_lo]; rfl

theorem tail_v34 (c : Dev nD) : Pipeline.afterTail₀ cfgs (dats m) 0 (V0 m) [hostOps1] c main_v34
    = mixK (wts m c) (m ((c.tc : Thread nD τ).loc main_arg1)) := by
  have e := array_v32 m c
  refine Eq.trans (b := extractStridedSlice S4x4096x256 ![4, 0, 0] (G m c) slices_S8x4096x256_S4x4096x256_4_0_0) ?_ ?_
  · show StableHlo.after hostOps1 (Pipeline.withArrays spec0 c (V0 m c) fun w => (dats m 0 c).arrAt w cfg0.N) (Proc.devRef .tc main_v34) = _
    after_results
    rw [e]
  · funext y
    obtain ⟨b, r, o, rfl⟩ : ∃ (b : Fin 4) (r : Fin 4096) (o : Fin 256), y = (ix3 b r o : S4x4096x256.Idx) := ⟨y 0, y 1, y 2, ix3_self y⟩
    have h : extractStridedSlice S4x4096x256 ![4, 0, 0] (G m c) slices_S8x4096x256_S4x4096x256_4_0_0 (ix3 b r o) = G m c (ix3 (⟨4 + b, by omega⟩ : Fin 8) r o) := by
      pointwise
    rw [h]
    show Model.out (wts m c) (seqs m c ⟨4 + b, _⟩) (Model.dlK (wts m c) (seqs m c ⟨4 + b, _⟩)) r o = _
    rw [seqs_hi]; rfl

/-- The two results. -/
theorem run_results : θ_run defs (onTc (τ := τ) (main (F := Ideal))) ⟨m, fun _ => 0, ρ⟩ (fun r => ∀ c : Dev nD,
      r.2.mem ((c.tc : Thread nD τ).loc main_v33) = mixK (wts m c) (m ((c.tc : Thread nD τ).loc main_arg0))
      ∧ r.2.mem ((c.tc : Thread nD τ).loc main_v34) = mixK (wts m c) (m ((c.tc : Thread nD τ).loc main_arg1))) :=
  (θ_run defs _ _).mono (fun r h c =>
    ⟨((h c).2 main_v33 (Pipeline.mem_restRefs_of main_v33 (by decide) (by decide))).trans (tail_v33 m c),
     ((h c).2 main_v34 (Pipeline.mem_restRefs_of main_v34 (by decide) (by decide))).trans (tail_v34 m c)⟩) (run_main m ρ)

end Cert.KernelIdeal.Scan

end
-- ==== Proof.ReferenceStep.lean ====
/- The run of the program `ReferenceIdeal` stated over one trip of its loop, as a function of a state: at a valuation that holds
   a state (the state at the carried buffers the body writes, the set-up values at the loop's constants, the trip's number at its
   counters) every value of one trip is that of the generated step, one lemma each, so one trip keeps holding with `step` applied;
   what the program leaves before the loop holds `init`; and the results are the fields of `step` iterated from `init`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v109_9) = s.main_v109_9
  f_10 : V0 (Proc.devRef .tc main_v109_10) = s.main_v109_10
  f_11 : V0 (Proc.devRef .tc main_v109_11) = s.main_v109_11
  f_12 : V0 (Proc.devRef .tc main_v109_12) = s.main_v109_12
  f_0 : V0 (Proc.devRef .tc main_v109_0) = s.main_v109_0
  f_1 : V0 (Proc.devRef .tc main_v109_1) = s.main_v109_1
  f_2 : V0 (Proc.devRef .tc main_v109_2) = s.main_v109_2
  f_3 : V0 (Proc.devRef .tc main_v109_3) = s.main_v109_3
  f_4 : V0 (Proc.devRef .tc main_v109_4) = s.main_v109_4
  f_5 : V0 (Proc.devRef .tc main_v109_5) = s.main_v109_5
  f_6 : V0 (Proc.devRef .tc main_v109_6) = s.main_v109_6
  f_7 : V0 (Proc.devRef .tc main_v109_7) = s.main_v109_7
  n_8 : V0 (Proc.devRef .tc main_v109_8) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call4_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x128x16 (V0 (Proc.devRef .tc main_v109_0)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16 : (Proc.devRef .tc main_while0b_call4_v0 : DevRef τ sig).ty.Contents (Elt F)) = Cert.ReferenceIdeal.Step.b3 j s := by
  unfold Cert.ReferenceIdeal.Step.b3
  rw [← al_0 h, ← al_1 h, ← al_2 h, h.f_0, h.n_8]
  try rfl
set_option maxRecDepth 8192 in
theorem al_4 (h : Holds V0 s j) : (shapeCast S4x128x16 (Host.dynamicSlice S1x4x128x16 (V0 (Proc.devRef .tc main_v109_0)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16 : (Proc.devRef .tc main_while0b_v164 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call5_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call5_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call5_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x128x16 (V0 (Proc.devRef .tc main_v109_1)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16 : (Proc.devRef .tc main_while0b_call5_v0 : DevRef τ sig).ty.Contents (Elt F)) = Cert.ReferenceIdeal.Step.b8 j s := by
  unfold Cert.ReferenceIdeal.Step.b8
  rw [← al_5 h, ← al_6 h, ← al_7 h, h.f_1, h.n_8]
  try rfl
set_option maxRecDepth 8192 in
theorem al_9 (h : Holds V0 s j) : (shapeCast S4x128x16 (Host.dynamicSlice S1x4x128x16 (V0 (Proc.devRef .tc main_v109_1)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16 : (Proc.devRef .tc main_while0b_v165 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call6_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call6_c_0 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16 : (Proc.devRef .tc main_while0b_call6_v0 : DevRef τ sig).ty.Contents (Elt F)) = Cert.ReferenceIdeal.Step.b12 j s := by
  unfold Cert.ReferenceIdeal.Step.b12
  rw [← al_10 h, ← al_11 h, h.f_2, h.n_8]
  try rfl
set_option maxRecDepth 8192 in
theorem al_13 (h : Holds V0 s j) : (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16 : (Proc.devRef .tc main_while0b_v166 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call7_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_0 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128 : (Proc.devRef .tc main_while0b_call7_v0 : DevRef τ sig).ty.Contents (Elt F)) = Cert.ReferenceIdeal.Step.b16 j s := by
  unfold Cert.ReferenceIdeal.Step.b16
  rw [← al_14 h, ← al_15 h, h.f_3, h.n_8]
  try rfl
set_option maxRecDepth 8192 in
theorem al_17 (h : Holds V0 s j) : (shapeCast S4x128 (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128 : (Proc.devRef .tc main_while0b_v167 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call8_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call8_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x128x16 (V0 (Proc.devRef .tc main_v109_4)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16 : (Proc.devRef .tc main_while0b_call8_v0 : DevRef τ sig).ty.Contents (Elt F)) = Cert.ReferenceIdeal.Step.b21 j s := by
  unfold Cert.ReferenceIdeal.Step.b21
  rw [← al_18 h, ← al_19 h, ← al_20 h, h.f_4, h.n_8]
  try rfl
set_option maxRecDepth 8192 in
theorem al_22 (h : Holds V0 s j) : (shapeCast S4x128x16 (Host.dynamicSlice S1x4x128x16 (V0 (Proc.devRef .tc main_v109_4)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16 : (Proc.devRef .tc main_while0b_v168 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call9_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call9_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call9_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x128x16 (V0 (Proc.devRef .tc main_v109_5)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16 : (Proc.devRef .tc main_while0b_call9_v0 : DevRef τ sig).ty.Contents (Elt F)) = Cert.ReferenceIdeal.Step.b26 j s := by
  unfold Cert.ReferenceIdeal.Step.b26
  rw [← al_23 h, ← al_24 h, ← al_25 h, h.f_5, h.n_8]
  try rfl
set_option maxRecDepth 8192 in
theorem al_27 (h : Holds V0 s j) : (shapeCast S4x128x16 (Host.dynamicSlice S1x4x128x16 (V0 (Proc.devRef .tc main_v109_5)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16 : (Proc.devRef .tc main_while0b_v169 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constantI S_ 32 0#32 : (Proc.devRef .tc main_while0b_call10_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call10_c_0 : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16 : (Proc.devRef .tc main_while0b_call10_v0 : DevRef τ sig).ty.Contents (Elt F)) = Cert.ReferenceIdeal.Step.b30 j s := by
  unfold Cert.ReferenceIdeal.Step.b30
  rw [← al_28 h, ← al_29 h, h.f_6, h.n_8]
  try rfl
set_option maxRecDepth 8192 in
theorem al_31 (h : Holds V0 s j) : (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16 : (Proc.devRef .tc main_while0b_v170 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constantI S_ 32 0#32 : (Proc.devRef .tc main_while0b_call11_c : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call11_c_0 : DevRef τ sig).ty.Contents (Elt F)) = Cert.ReferenceIdeal.Step.b33 j s := by
  unfold Cert.ReferenceIdeal.Step.b33
  rfl
set_option maxRecDepth 8192 in
theorem al_34 (h : Holds V0 s j) : (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128 : (Proc.devRef .tc main_while0b_call11_v0 : DevRef τ sig).ty.Contents (Elt F)) = Cert.ReferenceIdeal.Step.b34 j s := by
  unfold Cert.ReferenceIdeal.Step.b34
  rw [← al_32 h, ← al_33 h, h.f_7, h.n_8]
  try rfl
set_option maxRecDepth 8192 in
theorem al_35 (h : Holds V0 s j) : (shapeCast S4x128 (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128 : (Proc.devRef .tc main_while0b_v171 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (shapeCast S4x128x16 (Host.dynamicSlice S1x4x128x16 (V0 (Proc.devRef .tc main_v109_0)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16) (V0 (Proc.devRef .tc main_v109_9)) : (Proc.devRef .tc main_while0b_v172 : DevRef τ sig).ty.Contents (Elt F)) = Cert.ReferenceIdeal.Step.b36 j s := by
  unfold Cert.ReferenceIdeal.Step.b36
  rw [← al_4 h, h.f_9]
  try rfl
set_option maxRecDepth 8192 in
theorem al_37 (h : Holds V0 s j) : (res_main_while0b_v173 V0 : (Proc.devRef .tc main_while0b_v173 : DevRef τ sig).ty.Contents (Elt F)) = Cert.ReferenceIdeal.Step.b37 j s := by
  unfold res_main_while0b_v173 Cert.ReferenceIdeal.Step.b37
  rw [← al_36 h, ← al_9 h]
  try rfl
set_option maxRecDepth 8192 in
theorem al_38 (h : Holds V0 s j) : (mulf (shapeCast S4x128x16 (Host.dynamicSlice S1x4x128x16 (V0 (Proc.devRef .tc main_v109_4)) (fun k => (((![V0 (Proc.devRef .tc main_v109_8), constantI S_ 32 0#32, constantI S_ 32 0#32, constantI S_ 32 0#32] : Fin 4 → (⟨S_, .i32⟩ : BufTy).Contents (Elt F))) k (Shape.Idx.first h_S_)).toInt) sliceFits_S4096x4x128x16_S1x4x128x16) shapeCasts_S1x4x128x16_S4x128x16) (V0 (Proc.devRef .tc main_v109_10)) : (Proc.devRef .tc main_while0b_v174 : DevRef τ sig).ty.Contents (Elt F)) = Cert.ReferenceIdeal.Step.b38 j s := by
  unfold Cert.ReferenceIdeal.Step.b38
  rw [← al_22 h, h.f_10]
  try rfl
set_option maxRecDepth 8192 in
theorem al_39 (h : Holds V0 s j) : (res_main_while0b_v175 V0 : (Proc.devRef .tc main_while0b_v175 : DevRef τ sig).ty.Contents (Elt F)) = Cert.ReferenceIdeal.Step.b39 j s := by
  unfold res_main_while0b_v175 Cert.ReferenceIdeal.Step.b39
  rw [← al_38 h, ← al_27 h]
  try rfl
set_option maxRecDepth 8192 in
theorem al_40 (h : Holds V0 s j) : (Host.dotGeneral dot_S4x128x16_S4x16_S4x128_2_1_1_n_0_0 none (res_main_while0b_v173 V0) (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16) : (Proc.devRef .tc main_while0b_v176 : DevRef τ sig).ty.Contents (Elt F)) = Cert.ReferenceIdeal.Step.b40 j s := by
  unfold Cert.ReferenceIdeal.Step.b40
  rw [← al_37 h, ← al_13 h]
  try rfl
set_option maxRecDepth 8192 in
theorem al_41 (h : Holds V0 s j) : (addf (Host.dotGeneral dot_S4x128x16_S4x16_S4x128_2_1_1_n_0_0 none (res_main_while0b_v173 V0) (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128) : (Proc.devRef .tc main_while0b_v177 : DevRef τ sig).ty.Contents (Elt F)) = Cert.ReferenceIdeal.Step.b41 j s := by
  unfold Cert.ReferenceIdeal.Step.b41
  rw [← al_40 h, ← al_17 h]
  try rfl
set_option maxRecDepth 8192 in
theorem al_42 (h : Holds V0 s j) : (Host.dotGeneral dot_S4x128x16_S4x16_S4x128_2_1_1_n_0_0 none (res_main_while0b_v175 V0) (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16) : (Proc.devRef .tc main_while0b_v178 : DevRef τ sig).ty.Contents (Elt F)) = Cert.ReferenceIdeal.Step.b42 j s := by
  unfold Cert.ReferenceIdeal.Step.b42
  rw [← al_39 h, ← al_31 h]
  try rfl
set_option maxRecDepth 8192 in
theorem al_43 (h : Holds V0 s j) : (addf (Host.dotGeneral dot_S4x128x16_S4x16_S4x128_2_1_1_n_0_0 none (res_main_while0b_v175 V0) (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128) : (Proc.devRef .tc main_while0b_v179 : DevRef τ sig).ty.Contents (Elt F)) = Cert.ReferenceIdeal.Step.b43 j s := by
  unfold Cert.ReferenceIdeal.Step.b43
  rw [← al_42 h, ← al_35 h]
  try rfl
set_option maxRecDepth 8192 in
theorem al_44 (h : Holds V0 s j) : (broadcastInDim S1x4x128 ![1, 2] bcast_S4x128_S1x4x128_1_2 (addf (Host.dotGeneral dot_S4x128x16_S4x16_S4x128_2_1_1_n_0_0 none (res_main_while0b_v173 V0) (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128)) : (Proc.devRef .tc main_while0b_call12_v0 : DevRef τ sig).ty.Contents (Elt F)) = Cert.ReferenceIdeal.Step.b44 j s := by
  unfold Cert.ReferenceIdeal.Step.b44
  rw [← al_41 h]
  try rfl
set_option maxRecDepth 8192 in
theorem al_45 (h : Holds V0 s j) : (constantI S_ 32 0#32 : (Proc.devRef .tc main_while0b_call12_c : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call12_c_0 : DevRef τ sig).ty.Contents (Elt F)) = Cert.ReferenceIdeal.Step.b46 j s := by
  unfold Cert.ReferenceIdeal.Step.b46
  rfl
set_option maxRecDepth 8192 in
theorem al_47 (h : Holds V0 s j) : (Host.dynamicUpdateSlice (V0 (Proc.devRef .tc main_v109_11)) (broadcastInDim S1x4x128 ![1, 2] bcast_S4x128_S1x4x128_1_2 (addf (Host.dotGeneral dot_S4x128x16_S4x16_S4x128_2_1_1_n_0_0 none (res_main_while0b_v173 V0) (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128))) (fun k => (((![V0 (Proc.devRef .tc main_v109_8), constantI S_ 32 0#32, constantI S_ 32 0#32] : Fin 3 → (⟨S_, .i32⟩ : BufTy).Contents (Elt F))) k (Shape.Idx.first h_S_)).toInt) updateFits_S4096x4x128_S1x4x128 : (Proc.devRef .tc main_while0b_v180 : DevRef τ sig).ty.Contents (Elt F)) = Cert.ReferenceIdeal.Step.b47 j s := by
  unfold Cert.ReferenceIdeal.Step.b47
  rw [← al_44 h, ← al_45 h, ← al_46 h, h.f_11, h.n_8]
  try rfl
set_option maxRecDepth 8192 in
theorem al_48 (h : Holds V0 s j) : (broadcastInDim S1x4x128 ![1, 2] bcast_S4x128_S1x4x128_1_2 (addf (Host.dotGeneral dot_S4x128x16_S4x16_S4x128_2_1_1_n_0_0 none (res_main_while0b_v175 V0) (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128)) : (Proc.devRef .tc main_while0b_call13_v0 : DevRef τ sig).ty.Contents (Elt F)) = Cert.ReferenceIdeal.Step.b48 j s := by
  unfold Cert.ReferenceIdeal.Step.b48
  rw [← al_43 h]
  try rfl
set_option maxRecDepth 8192 in
theorem al_49 (h : Holds V0 s j) : (constantI S_ 32 0#32 : (Proc.devRef .tc main_while0b_call13_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call13_c_0 : DevRef τ sig).ty.Contents (Elt F)) = Cert.ReferenceIdeal.Step.b50 j s := by
  unfold Cert.ReferenceIdeal.Step.b50
  rfl
set_option maxRecDepth 8192 in
theorem al_51 (h : Holds V0 s j) : (Host.dynamicUpdateSlice (V0 (Proc.devRef .tc main_v109_12)) (broadcastInDim S1x4x128 ![1, 2] bcast_S4x128_S1x4x128_1_2 (addf (Host.dotGeneral dot_S4x128x16_S4x16_S4x128_2_1_1_n_0_0 none (res_main_while0b_v175 V0) (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128))) (fun k => (((![V0 (Proc.devRef .tc main_v109_8), constantI S_ 32 0#32, constantI S_ 32 0#32] : Fin 3 → (⟨S_, .i32⟩ : BufTy).Contents (Elt F))) k (Shape.Idx.first h_S_)).toInt) updateFits_S4096x4x128_S1x4x128 : (Proc.devRef .tc main_while0b_v181 : DevRef τ sig).ty.Contents (Elt F)) = Cert.ReferenceIdeal.Step.b51 j s := by
  unfold Cert.ReferenceIdeal.Step.b51
  rw [← al_48 h, ← al_49 h, ← al_50 h, h.f_12, h.n_8]
  try rfl

/-! One trip's step of the carried values is `step`, field by field; a counter steps to the next number. -/

theorem step_9 (h : Holds V0 s j) : step_main_v109_9 V0 = (step j s).main_v109_9 := by
  unfold step_main_v109_9 Cert.ReferenceIdeal.Step.step
  show id (res_main_while0b_v173 V0) = _
  rw [al_37 h]
  try rfl
theorem step_10 (h : Holds V0 s j) : step_main_v109_10 V0 = (step j s).main_v109_10 := by
  unfold step_main_v109_10 Cert.ReferenceIdeal.Step.step
  show id (res_main_while0b_v175 V0) = _
  rw [al_39 h]
  try rfl
theorem step_11 (h : Holds V0 s j) : step_main_v109_11 V0 = (step j s).main_v109_11 := by
  unfold step_main_v109_11 Cert.ReferenceIdeal.Step.step
  show id (Host.dynamicUpdateSlice (V0 (Proc.devRef .tc main_v109_11)) (broadcastInDim S1x4x128 ![1, 2] bcast_S4x128_S1x4x128_1_2 (addf (Host.dotGeneral dot_S4x128x16_S4x16_S4x128_2_1_1_n_0_0 none (res_main_while0b_v173 V0) (shapeCast S4x16 (Host.dynamicSlice S1x4x16 (V0 (Proc.devRef .tc main_v109_2)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_3)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128))) (fun k => (((![V0 (Proc.devRef .tc main_v109_8), constantI S_ 32 0#32, constantI S_ 32 0#32] : Fin 3 → (⟨S_, .i32⟩ : BufTy).Contents (Elt F))) k (Shape.Idx.first h_S_)).toInt) updateFits_S4096x4x128_S1x4x128) = _
  exact al_47 h
theorem step_12 (h : Holds V0 s j) : step_main_v109_12 V0 = (step j s).main_v109_12 := by
  unfold step_main_v109_12 Cert.ReferenceIdeal.Step.step
  show id (Host.dynamicUpdateSlice (V0 (Proc.devRef .tc main_v109_12)) (broadcastInDim S1x4x128 ![1, 2] bcast_S4x128_S1x4x128_1_2 (addf (Host.dotGeneral dot_S4x128x16_S4x16_S4x128_2_1_1_n_0_0 none (res_main_while0b_v175 V0) (shapeCast S4x16 (Host.dynamicSlice S1x4x16 (V0 (Proc.devRef .tc main_v109_6)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) (shapeCast S4x128 (Host.dynamicSlice S1x4x128 (V0 (Proc.devRef .tc main_v109_7)) (fun k => (((![V0 (Proc.devRef .tc main_v109_8), constantI S_ 32 0#32, constantI S_ 32 0#32] : Fin 3 → (⟨S_, .i32⟩ : BufTy).Contents (Elt F))) k (Shape.Idx.first h_S_)).toInt) sliceFits_S4096x4x128_S1x4x128) shapeCasts_S1x4x128_S4x128))) (fun k => (((![V0 (Proc.devRef .tc main_v109_8), constantI S_ 32 0#32, constantI S_ 32 0#32] : Fin 3 → (⟨S_, .i32⟩ : BufTy).Contents (Elt F))) k (Shape.Idx.first h_S_)).toInt) updateFits_S4096x4x128_S1x4x128) = _
  exact al_51 h
theorem step_8 (h : Holds V0 s j) : step_main_v109_8 V0 = constantI S_ 32 (BitVec.ofNat 32 (j + 1)) := by
  unfold step_main_v109_8
  rw [h.n_8]
  funext i
  show BitVec.ofNat 32 j + 1#32 = BitVec.ofNat 32 (j + 1)
  simp only [BitVec.ofNat_add]

set_option maxRecDepth 8192 in
theorem out_main_v137_holds (h : Holds V0 s j) {x_main_arg0 : (⟨S4x4096x256, .f32⟩ : BufTy).Contents (Elt F)} (h_main_arg0 : V0 (Proc.devRef .tc main_arg0) = x_main_arg0) {x_main_arg2 : (⟨S256x256, .f32⟩ : BufTy).Contents (Elt F)} (h_main_arg2 : V0 (Proc.devRef .tc main_arg2) = x_main_arg2) {x_main_arg4 : (⟨S128x1x3, .f32⟩ : BufTy).Contents (Elt F)} (h_main_arg4 : V0 (Proc.devRef .tc main_arg4) = x_main_arg4) {x_main_arg10 : (⟨S256x256, .f32⟩ : BufTy).Contents (Elt F)} (h_main_arg10 : V0 (Proc.devRef .tc main_arg10) = x_main_arg10) : out_main_v137 V0 = Cert.ReferenceIdeal.Step.R_main_v137 s x_main_arg0 x_main_arg2 x_main_arg4 x_main_arg10 := by
  unfold out_main_v137 Cert.ReferenceIdeal.Step.R_main_v137
  rw [h.f_11, h_main_arg0, h_main_arg2, h_main_arg4, h_main_arg10]
  try rfl

set_option maxRecDepth 8192 in
theorem out_main_v163_holds (h : Holds V0 s j) {x_main_arg1 : (⟨S4x4096x256, .f32⟩ : BufTy).Contents (Elt F)} (h_main_arg1 : V0 (Proc.devRef .tc main_arg1) = x_main_arg1) {x_main_arg2 : (⟨S256x256, .f32⟩ : BufTy).Contents (Elt F)} (h_main_arg2 : V0 (Proc.devRef .tc main_arg2) = x_main_arg2) {x_main_arg4 : (⟨S128x1x3, .f32⟩ : BufTy).Contents (Elt F)} (h_main_arg4 : V0 (Proc.devRef .tc main_arg4) = x_main_arg4) {x_main_arg10 : (⟨S256x256, .f32⟩ : BufTy).Contents (Elt F)} (h_main_arg10 : V0 (Proc.devRef .tc main_arg10) = x_main_arg10) : out_main_v163 V0 = Cert.ReferenceIdeal.Step.R_main_v163 s x_main_arg1 x_main_arg2 x_main_arg4 x_main_arg10 := by
  unfold out_main_v163 Cert.ReferenceIdeal.Step.R_main_v163
  rw [h.f_12, h_main_arg1, h_main_arg2, h_main_arg4, h_main_arg10]
  try rfl

/-- One trip keeps the valuation holding: `step` of the state, the same set-up values, the next number. -/
theorem holds_step (h : Holds V0 s j) : Holds (STEP V0) (step j s) (j + 1) where
  f_9 := (STEP_main_v109_9 V0).trans (step_9 h)
  f_10 := (STEP_main_v109_10 V0).trans (step_10 h)
  f_11 := (STEP_main_v109_11 V0).trans (step_11 h)
  f_12 := (STEP_main_v109_12 V0).trans (step_12 h)
  n_8 := (STEP_main_v109_8 V0).trans (step_8 h)
  f_0 := (STEP_main_v109_0 V0).trans h.f_0
  f_1 := (STEP_main_v109_1 V0).trans h.f_1
  f_2 := (STEP_main_v109_2 V0).trans h.f_2
  f_3 := (STEP_main_v109_3 V0).trans h.f_3
  f_4 := (STEP_main_v109_4 V0).trans h.f_4
  f_5 := (STEP_main_v109_5 V0).trans h.f_5
  f_6 := (STEP_main_v109_6 V0).trans h.f_6
  f_7 := (STEP_main_v109_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 1500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v137) = Cert.ReferenceIdeal.Step.R_main_v137 (it c 4096) (m ((c.tc : Thread nD τ).loc main_arg0)) (m ((c.tc : Thread nD τ).loc main_arg2)) (m ((c.tc : Thread nD τ).loc main_arg4)) (m ((c.tc : Thread nD τ).loc main_arg10))
      ∧ r.2.mem ((c.tc : Thread nD τ).loc main_v163) = Cert.ReferenceIdeal.Step.R_main_v163 (it c 4096) (m ((c.tc : Thread nD τ).loc main_arg1)) (m ((c.tc : Thread nD τ).loc main_arg2)) (m ((c.tc : Thread nD τ).loc main_arg4)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 4096
    ⟨(h c).1.trans (out_main_v137_holds hk (iter_main_arg0 m c 4096) (iter_main_arg2 m c 4096) (iter_main_arg4 m c 4096) (iter_main_arg10 m c 4096)), (h c).2.1.trans (out_main_v163_holds hk (iter_main_arg1 m c 4096) (iter_main_arg2 m c 4096) (iter_main_arg4 m c 4096) (iter_main_arg10 m c 4096)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.StepRun

end
-- ==== Proof.RefLoop.lean ====
/- The loop of the program `ReferenceIdeal` at an index, at the extended reals: its trips are the recurrence of either argument's
   sequences, and the rows of its outputs. -/
module

public import proofs.«01_k».proof.Proof.RefInputs
public import Idealize.ShloMosaic.Lib.DynamicIndex
public import Idealize.ShloMosaic.Lib.Pipeline.Value

@[expose] public section

noncomputable section

namespace Cert.ReferenceIdeal.Value

open Idealize.ShloMosaic Cert.ReferenceIdeal Cert.ReferenceIdeal.Gen Cert.ReferenceIdeal.Step

theorem toInt_trip (j : ℕ) (hj : j < 4096) : (BitVec.ofNat 32 j).toInt = j := by
  rw [BitVec.toInt_eq_toNat_of_lt (by rw [BitVec.toNat_ofNat]; omega), BitVec.toNat_ofNat]; omega

theorem row4 (x : FVec Ideal S4096x4x128x16 .f32) (j : ℕ) (hj : j < 4096) (z : Fin 1) (b : Fin 4) (d : Fin 128) (n : Fin 16) :
    Host.dynamicSlice S1x4x128x16 x (fun k => (((![(constantI S_ 32 (BitVec.ofNat 32 j) : IVec S_ 32), constantI S_ 32 0#32, constantI S_ 32 0#32, constantI S_ 32 0#32] : Fin 4 → IVec S_ 32)) k (Shape.Idx.first h_S_)).toInt) sliceFits_S4096x4x128x16_S1x4x128x16
      (ix4 z b d n) = x (ix4 ⟨j, hj⟩ b d n) := by
  rw [Host.dynamicSlice_eq_extractStridedSlice S1x4x128x16 x _ ![j, 0, 0, 0] _ ⟨rfl, fun a => by
    match a with
    | ⟨0, _⟩ => show j + 1 ≤ 4096; omega
    | ⟨1, _⟩ => exact Nat.le_of_eq (Nat.zero_add _)
    | ⟨2, _⟩ => exact Nat.le_of_eq (Nat.zero_add _)
    | ⟨3, _⟩ => exact Nat.le_of_eq (Nat.zero_add _)⟩ (fun a => by
    match a with
    | ⟨0, _⟩ => exact toInt_trip j hj
    | ⟨1, _⟩ => rfl
    | ⟨2, _⟩ => rfl
    | ⟨3, _⟩ => rfl)]
  pointwise

theorem row16 (x : FVec Ideal S4096x4x16 .f32) (j : ℕ) (hj : j < 4096) (z : Fin 1) (b : Fin 4) (n : Fin 16) :
    Host.dynamicSlice S1x4x16 x (fun k => (((![(constantI S_ 32 (BitVec.ofNat 32 j) : IVec S_ 32), constantI S_ 32 0#32, constantI S_ 32 0#32] : Fin 3 → IVec S_ 32)) k (Shape.Idx.first h_S_)).toInt) sliceFits_S4096x4x16_S1x4x16
      (ix3 z b n) = x (ix3 ⟨j, hj⟩ b n) := by
  rw [Host.dynamicSlice_eq_extractStridedSlice S1x4x16 x _ ![j, 0, 0] _ ⟨rfl, fun a => by
    match a with
    | ⟨0, _⟩ => show j + 1 ≤ 4096; omega
    | ⟨1, _⟩ => exact Nat.le_of_eq (Nat.zero_add _)
    | ⟨2, _⟩ => exact Nat.le_of_eq (Nat.zero_add _)⟩ (fun a => by
    match a with
    | ⟨0, _⟩ => exact toInt_trip j hj
    | ⟨1, _⟩ => rfl
    | ⟨2, _⟩ => rfl)]
  pointwise

theorem row128 (x : FVec Ideal S4096x4x128 .f32) (j : ℕ) (hj : j < 4096) (z : Fin 1) (b : Fin 4) (d : Fin 128) :
    Host.dynamicSlice S1x4x128 x (fun k => (((![(constantI S_ 32 (BitVec.ofNat 32 j) : IVec S_ 32), constantI S_ 32 0#32, constantI S_ 32 0#32] : Fin 3 → IVec S_ 32)) k (Shape.Idx.first h_S_)).toInt) sliceFits_S4096x4x128_S1x4x128
      (ix3 z b d) = x (ix3 ⟨j, hj⟩ b d) := by
  rw [Host.dynamicSlice_eq_extractStridedSlice S1x4x128 x _ ![j, 0, 0] _ ⟨rfl, fun a => by
    match a with
    | ⟨0, _⟩ => show j + 1 ≤ 4096; omega
    | ⟨1, _⟩ => exact Nat.le_of_eq (Nat.zero_add _)
    | ⟨2, _⟩ => exact Nat.le_of_eq (Nat.zero_add _)⟩ (fun a => by
    match a with
    | ⟨0, _⟩ => exact toInt_trip j hj
    | ⟨1, _⟩ => rfl
    | ⟨2, _⟩ => rfl)]
  pointwise

theorem upd128 (x : FVec Ideal S4096x4x128 .f32) (v : FVec Ideal S1x4x128 .f32) (j : ℕ) (hj : j < 4096) (t : Fin 4096) (b : Fin 4) (d : Fin 128) :
    Host.dynamicUpdateSlice x v (fun k => (((![(constantI S_ 32 (BitVec.ofNat 32 j) : IVec S_ 32), constantI S_ 32 0#32, constantI S_ 32 0#32] : Fin 3 → IVec S_ 32)) k (Shape.Idx.first h_S_)).toInt) updateFits_S4096x4x128_S1x4x128
      (ix3 t b d) = if t.val = j then v (ix3 0 b d) else x (ix3 t b d) := by
  rw [Host.dynamicUpdateSlice_eq_updateSlice x v _ _ ![j, 0, 0] (fun a => by
    match a with
    | ⟨0, _⟩ => exact (congrArg (fun i : ℤ => (min (max i 0) ((4096 - 1 : ℕ) : ℤ)).toNat) (toInt_trip j hj)).trans (by show _ = j; omega)
    | ⟨1, _⟩ => rfl
    | ⟨2, _⟩ => rfl) ⟨rfl, fun a => by
    match a with
    | ⟨0, _⟩ => show j + 1 ≤ 4096; omega
    | ⟨1, _⟩ => exact Nat.le_of_eq (Nat.zero_add _)
    | ⟨2, _⟩ => exact Nat.le_of_eq (Nat.zero_add _)⟩]
  pointwise
  by_cases h : t.val = j
  · rw [if_pos h, dif_pos (by omega)]
    exact congrArg (fun z : Fin 1 => v (ix3 z b d)) (Subsingleton.elim _ _)
  · rw [if_neg h, dif_neg (by omega)]

section trip

variable (j : ℕ) (hj : j < 4096) (s : State Ideal)

theorem at_b4 (b : Fin 4) (d : Fin 128) (n : Fin 16) : b4 j s (ix3 b d n) = s.main_v109_0 (ix4 ⟨j, hj⟩ b d n) := by
  refine Eq.trans (b := b3 j s (ix4 0 b d n)) ?_ (row4 s.main_v109_0 j hj 0 b d n)
  unfold b4; pointwise
theorem at_b9 (b : Fin 4) (d : Fin 128) (n : Fin 16) : b9 j s (ix3 b d n) = s.main_v109_1 (ix4 ⟨j, hj⟩ b d n) := by
  refine Eq.trans (b := b8 j s (ix4 0 b d n)) ?_ (row4 s.main_v109_1 j hj 0 b d n)
  unfold b9; pointwise
theorem at_b13 (b : Fin 4) (n : Fin 16) : b13 j s (ix2 b n) = s.main_v109_2 (ix3 ⟨j, hj⟩ b n) := by
  refine Eq.trans (b := b12 j s (ix3 0 b n)) ?_ (row16 s.main_v109_2 j hj 0 b n)
  unfold b13; pointwise
theorem at_b17 (b : Fin 4) (d : Fin 128) : b17 j s (ix2 b d) = s.main_v109_3 (ix3 ⟨j, hj⟩ b d) := by
  refine Eq.trans (b := b16 j s (ix3 0 b d)) ?_ (row128 s.main_v109_3 j hj 0 b d)
  unfold b17; pointwise
theorem at_b22 (b : Fin 4) (d : Fin 128) (n : Fin 16) : b22 j s (ix3 b d n) = s.main_v109_4 (ix4 ⟨j, hj⟩ b d n) := by
  refine Eq.trans (b := b21 j s (ix4 0 b d n)) ?_ (row4 s.main_v109_4 j hj 0 b d n)
  unfold b22; pointwise
theorem at_b27 (b : Fin 4) (d : Fin 128) (n : Fin 16) : b27 j s (ix3 b d n) = s.main_v109_5 (ix4 ⟨j, hj⟩ b d n) := by
  refine Eq.trans (b := b26 j s (ix4 0 b d n)) ?_ (row4 s.main_v109_5 j hj 0 b d n)
  unfold b27; pointwise
theorem at_b31 (b : Fin 4) (n : Fin 16) : b31 j s (ix2 b n) = s.main_v109_6 (ix3 ⟨j, hj⟩ b n) := by
  refine Eq.trans (b := b30 j s (ix3 0 b n)) ?_ (row16 s.main_v109_6 j hj 0 b n)
  unfold b31; pointwise
theorem at_b35 (b : Fin 4) (d : Fin 128) : b35 j s (ix2 b d) = s.main_v109_7 (ix3 ⟨j, hj⟩ b d) := by
  refine Eq.trans (b := b34 j s (ix3 0 b d)) ?_ (row128 s.main_v109_7 j hj 0 b d)
  unfold b35; pointwise

theorem at_b37 (b : Fin 4) (d : Fin 128) (n : Fin 16) : b37 j s (ix3 b d n)
    = s.main_v109_0 (ix4 ⟨j, hj⟩ b d n) * s.main_v109_9 (ix3 b d n) + s.main_v109_1 (ix4 ⟨j, hj⟩ b d n) :=
  congrArg₂ (· + ·) (congrArg (· * s.main_v109_9 (ix3 b d n)) (at_b4 j hj s b d n)) (at_b9 j hj s b d n)
theorem at_b39 (b : Fin 4) (d : Fin 128) (n : Fin 16) : b39 j s (ix3 b d n)
    = s.main_v109_4 (ix4 ⟨j, hj⟩ b d n) * s.main_v109_10 (ix3 b d n) + s.main_v109_5 (ix4 ⟨j, hj⟩ b d n) :=
  congrArg₂ (· + ·) (congrArg (· * s.main_v109_10 (ix3 b d n)) (at_b22 j hj s b d n)) (at_b27 j hj s b d n)

theorem at_b44 (b : Fin 4) (d : Fin 128) : b44 j s (ix3 0 b d)
    = (∑ n : Fin 16, b37 j s (ix3 b d n) * s.main_v109_2 (ix3 ⟨j, hj⟩ b n)) + s.main_v109_3 (ix3 ⟨j, hj⟩ b d) := by
  unfold b44 b41 b40
  pointwise [at_b13 j hj s, at_b17 j hj s]
theorem at_b48 (b : Fin 4) (d : Fin 128) : b48 j s (ix3 0 b d)
    = (∑ n : Fin 16, b39 j s (ix3 b d n) * s.main_v109_6 (ix3 ⟨j, hj⟩ b n)) + s.main_v109_7 (ix3 ⟨j, hj⟩ b d) := by
  unfold b48 b43 b42
  pointwise [at_b31 j hj s, at_b35 j hj s]

include hj in
theorem at_b47 (t : Fin 4096) (b : Fin 4) (d : Fin 128) :
    b47 j s (ix3 t b d) = if t.val = j then b44 j s (ix3 0 b d) else s.main_v109_11 (ix3 t b d) := upd128 _ _ j hj t b d
include hj in
theorem at_b51 (t : Fin 4096) (b : Fin 4) (d : Fin 128) :
    b51 j s (ix3 t b d) = if t.val = j then b48 j s (ix3 0 b d) else s.main_v109_12 (ix3 t b d) := upd128 _ _ j hj t b d

end trip

end Cert.ReferenceIdeal.Value

end
-- ==== Proof.RefValue.lean ====
/- The run of the program `ReferenceIdeal` at the extended reals: its two results are the mixers of the sequences of its two arguments. -/
module

public import proofs.«01_k».proof.Proof.ReferenceStep
public import proofs.«01_k».proof.Proof.RefLoop

@[expose] public section

noncomputable section

namespace Cert.ReferenceIdeal.Value

open Idealize.ShloMosaic Idealize.ShloMosaic.TcCoe Cert.ReferenceIdeal Cert.ReferenceIdeal.Gen Cert.ReferenceIdeal.Step Idealize.SL.Sem

variable (a0 a1 : FVec Ideal S4x4096x256 .f32) (a2 : FVec Ideal S256x256 .f32) (a3 : FVec Ideal S128x1x3 .f32)
  (a4 : FVec Ideal S128x1x3 .f32) (a5 : FVec Ideal S48x128 .f32) (a6 : FVec Ideal S128x16 .f32) (a7 : FVec Ideal S128 .f32)
  (a8 : FVec Ideal S128x16 .f32) (a9 : FVec Ideal S128 .f32) (a10 : FVec Ideal S256x256 .f32)

/-- The state after `n` trips. -/
def it : ℕ → State Ideal
  | 0 => init a0 a1 a2 a3 a5 a6 a7 a8 a9
  | n + 1 => step n (it n)

/-- What the state holds after `n` trips. -/
structure Inv (n : ℕ) (s : State Ideal) : Prop where
  f0 : s.main_v109_0 = A_main_v84 a0 a1 a2 a3 a5 a6 a7 a8 a9
  f1 : s.main_v109_1 = A_main_v85 a0 a1 a2 a3 a5 a6 a7 a8 a9
  f2 : s.main_v109_2 = A_main_v86 a0 a1 a2 a3 a5 a6 a7 a8 a9
  f3 : s.main_v109_3 = A_main_v87 a0 a1 a2 a3 a5 a6 a7 a8 a9
  f4 : s.main_v109_4 = A_main_v84 a1 a1 a2 a3 a5 a6 a7 a8 a9
  f5 : s.main_v109_5 = A_main_v85 a1 a1 a2 a3 a5 a6 a7 a8 a9
  f6 : s.main_v109_6 = A_main_v86 a1 a1 a2 a3 a5 a6 a7 a8 a9
  f7 : s.main_v109_7 = A_main_v87 a1 a1 a2 a3 a5 a6 a7 a8 a9
  h0 : ∀ b d i, s.main_v109_9 (ix3 b d i) = Model.h (wts a2 a3 a4 a5 a6 a7 a8 a9 a10) (seq a0 b) (Model.dlR (wts a2 a3 a4 a5 a6 a7 a8 a9 a10) (seq a0 b)) d i n
  h1 : ∀ b d i, s.main_v109_10 (ix3 b d i) = Model.h (wts a2 a3 a4 a5 a6 a7 a8 a9 a10) (seq a1 b) (Model.dlR (wts a2 a3 a4 a5 a6 a7 a8 a9 a10) (seq a1 b)) d i n
  y0 : ∀ t b d, t.val < n → s.main_v109_11 (ix3 t b d) = Model.y (wts a2 a3 a4 a5 a6 a7 a8 a9 a10) (seq a0 b) (Model.dlR (wts a2 a3 a4 a5 a6 a7 a8 a9 a10) (seq a0 b)) t d
  y1 : ∀ t b d, t.val < n → s.main_v109_12 (ix3 t b d) = Model.y (wts a2 a3 a4 a5 a6 a7 a8 a9 a10) (seq a1 b) (Model.dlR (wts a2 a3 a4 a5 a6 a7 a8 a9 a10) (seq a1 b)) t d

/-- One step of the recurrence, from what it reads. -/
theorem h_step (a : FVec Ideal S4x4096x256 .f32) (j : ℕ) (hj : j < 4096) (b : Fin 4) (d : Fin 128) (i : Fin 16) (x : EReal)
    (hx : x = Model.h (wts a2 a3 a4 a5 a6 a7 a8 a9 a10) (seq a b) (Model.dlR (wts a2 a3 a4 a5 a6 a7 a8 a9 a10) (seq a b)) d i j) :
    A_main_v84 (F := Ideal) a a1 a2 a3 a5 a6 a7 a8 a9 (ix4 ⟨j, hj⟩ b d i) * x + A_main_v85 (F := Ideal) a a1 a2 a3 a5 a6 a7 a8 a9 (ix4 ⟨j, hj⟩ b d i)
      = Model.h (wts a2 a3 a4 a5 a6 a7 a8 a9 a10) (seq a b) (Model.dlR (wts a2 a3 a4 a5 a6 a7 a8 a9 a10) (seq a b)) d i (j + 1) := by
  rw [hx, at_v84 a a1 a2 a3 a4 a5 a6 a7 a8 a9 a10, at_v85 a a1 a2 a3 a4 a5 a6 a7 a8 a9 a10]
  conv_rhs => rw [Model.h]
  rw [dif_pos hj]

/-- One row of its output, from what it reads. -/
theorem y_step (a : FVec Ideal S4x4096x256 .f32) (t : Fin 4096) (b : Fin 4) (d : Fin 128) (x : Fin 16 → EReal)
    (hx : ∀ i, x i = Model.h (wts a2 a3 a4 a5 a6 a7 a8 a9 a10) (seq a b) (Model.dlR (wts a2 a3 a4 a5 a6 a7 a8 a9 a10) (seq a b)) d i (t.val + 1)) :
    (∑ i : Fin 16, x i * A_main_v86 (F := Ideal) a a1 a2 a3 a5 a6 a7 a8 a9 (ix3 t b i)) + A_main_v87 (F := Ideal) a a1 a2 a3 a5 a6 a7 a8 a9 (ix3 t b d)
      = Model.y (wts a2 a3 a4 a5 a6 a7 a8 a9 a10) (seq a b) (Model.dlR (wts a2 a3 a4 a5 a6 a7 a8 a9 a10) (seq a b)) t d := by
  rw [at_v87 a a1 a2 a3 a4 a5 a6 a7 a8 a9 a10]
  refine congrArg (· + _) (Finset.sum_congr rfl fun i _ => ?_)
  rw [hx, at_v86 a a1 a2 a3 a4 a5 a6 a7 a8 a9 a10]

theorem inv_init : Inv a0 a1 a2 a3 a4 a5 a6 a7 a8 a9 a10 0 (init a0 a1 a2 a3 a5 a6 a7 a8 a9) where
  f0 := rfl
  f1 := rfl
  f2 := rfl
  f3 := rfl
  f4 := v103_eq a0 a1 a2 a3 a5 a6 a7 a8 a9
  f5 := v104_eq a0 a1 a2 a3 a5 a6 a7 a8 a9
  f6 := v105_eq a0 a1 a2 a3 a5 a6 a7 a8 a9
  f7 := v106_eq a0 a1 a2 a3 a5 a6 a7 a8 a9
  h0 b d i := by show K_main_v68 (F := Ideal) (ix3 b d i) = 0; unfold K_main_v68 K_main_cst_1; pointwise
  h1 b d i := by show K_main_v68 (F := Ideal) (ix3 b d i) = 0; unfold K_main_v68 K_main_cst_1; pointwise
  y0 t b d h := absurd h (Nat.not_lt_zero _)
  y1 t b d h := absurd h (Nat.not_lt_zero _)

theorem inv_step (j : ℕ) (hj : j < 4096) (s : State Ideal) (h : Inv a0 a1 a2 a3 a4 a5 a6 a7 a8 a9 a10 j s) :
    Inv a0 a1 a2 a3 a4 a5 a6 a7 a8 a9 a10 (j + 1) (step j s) := by
  have e0 : ∀ b d i, b37 j s (ix3 b d i) = Model.h (wts a2 a3 a4 a5 a6 a7 a8 a9 a10) (seq a0 b) (Model.dlR (wts a2 a3 a4 a5 a6 a7 a8 a9 a10) (seq a0 b)) d i (j + 1) :=
    fun b d i => (at_b37 j hj s b d i).trans (by rw [h.f0, h.f1]; exact h_step a1 a2 a3 a4 a5 a6 a7 a8 a9 a10 a0 j hj b d i _ (h.h0 b d i))
  have e1 : ∀ b d i, b39 j s (ix3 b d i) = Model.h (wts a2 a3 a4 a5 a6 a7 a8 a9 a10) (seq a1 b) (Model.dlR (wts a2 a3 a4 a5 a6 a7 a8 a9 a10) (seq a1 b)) d i (j + 1) :=
    fun b d i => (at_b39 j hj s b d i).trans (by rw [h.f4, h.f5]; exact h_step a1 a2 a3 a4 a5 a6 a7 a8 a9 a10 a1 j hj b d i _ (h.h1 b d i))
  exact {
    f0 := h.f0, f1 := h.f1, f2 := h.f2, f3 := h.f3, f4 := h.f4, f5 := h.f5, f6 := h.f6, f7 := h.f7
    h0 := e0
    h1 := e1
    y0 := fun t b d ht => by
      refine (at_b47 j hj s t b d).trans ?_
      by_cases htj : t.val = j
      · subst htj
        rw [if_pos rfl, at_b44 t.val hj, h.f2, h.f3]
        exact y_step a1 a2 a3 a4 a5 a6 a7 a8 a9 a10 a0 t b d _ (fun i => e0 b d i)
      · rw [if_neg htj]; exact h.y0 t b d (by omega)
    y1 := fun t b d ht => by
      refine (at_b51 j hj s t b d).trans ?_
      by_cases htj : t.val = j
      · subst htj
        rw [if_pos rfl, at_b48 t.val hj, h.f6, h.f7]
        exact y_step a1 a2 a3 a4 a5 a6 a7 a8 a9 a10 a1 t b d _ (fun i => e1 b d i)
      · rw [if_neg htj]; exact h.y1 t b d (by omega) }

theorem inv_it (n : ℕ) (hn : n ≤ 4096) : Inv a0 a1 a2 a3 a4 a5 a6 a7 a8 a9 a10 n (it a0 a1 a2 a3 a5 a6 a7 a8 a9 n) := by
  induction n with
  | zero => exact inv_init a0 a1 a2 a3 a4 a5 a6 a7 a8 a9 a10
  | succ n ih => exact inv_step a0 a1 a2 a3 a4 a5 a6 a7 a8 a9 a10 n (by omega) _ (ih (by omega))

/-! ## The results -/

/-- The mixer of every sequence of an argument, with the reference's time step. -/
def mixR (p : Model.Weights) (x : FVec Ideal S4x4096x256 .f32) : S4x4096x256.Idx → EReal := fun y =>
  Model.out p (seq x (y 0)) (Model.dlR p (seq x (y 0))) (y 1) (y 2)

/-- The projection of the second half. -/
def projZ (a : FVec Ideal S4x4096x256 .f32) : FVec Ideal S4x4096x128 .f32 :=
  Host.dotGeneral dot_S4x4096x256_S128x256_S4x4096x128_2_1_01_0_n_n none a (extractStridedSlice S128x256 ![128, 0] a2 slices_S256x256_S128x256_128_0)

theorem projZ_apply (a : FVec Ideal S4x4096x256 .f32) (b : Fin 4) (t : Fin 4096) (d : Fin 128) :
    projZ a2 a (ix3 b t d) = Model.proj (wts a2 a3 a4 a5 a6 a7 a8 a9 a10) (seq a b) t (Model.chZ d) := by
  unfold projZ Model.proj seq Model.chZ wts
  pointwise

/-- The output projection, of the rows of the scan. -/
def outE (yv : FVec Ideal S4096x4x128 .f32) (a : FVec Ideal S4x4096x256 .f32) : FVec Ideal S4x4096x256 .f32 :=
  Host.dotGeneral dot_S4x4096x256_S256x256_S4x4096x256_2_1_01_0_n_n none
    (concatenate S4x4096x256 2 [⟨S4x4096x128, transpose S4x4096x128 [1, 0, 2] yv transposes_S4096x4x128_S4x4096x128_1_0_2⟩,
      ⟨S4x4096x128, siluE (convE (projZ a2 a) a4)⟩] concatenates_S4x4096x128_S4x4096x128_S4x4096x256_d2) a10

theorem zf_apply (a : FVec Ideal S4x4096x256 .f32) (b : Fin 4) (t : Fin 4096) (d : Fin 128) :
    siluE (convE (projZ a2 a) a4) (ix3 b t d) = Model.zf (wts a2 a3 a4 a5 a6 a7 a8 a9 a10) (seq a b) t d := by
  rw [siluE_apply, convE_apply]
  simp only [projZ_apply a2 a3 a4 a5 a6 a7 a8 a9 a10]
  rfl

theorem outE_apply (yv : FVec Ideal S4096x4x128 .f32) (a : FVec Ideal S4x4096x256 .f32)
    (hy : ∀ t b d, yv (ix3 t b d) = Model.y (wts a2 a3 a4 a5 a6 a7 a8 a9 a10) (seq a b) (Model.dlR (wts a2 a3 a4 a5 a6 a7 a8 a9 a10) (seq a b)) t d) :
    outE a2 a4 a10 yv a = mixR (wts a2 a3 a4 a5 a6 a7 a8 a9 a10) a := by
  funext y
  obtain ⟨b, t, o, rfl⟩ : ∃ (b : Fin 4) (t : Fin 4096) (o : Fin 256), y = (ix3 b t o : S4x4096x256.Idx) := ⟨y 0, y 1, y 2, eq_ix3 (n0 := 4) (n1 := 4096) (n2 := 256) y⟩
  unfold outE mixR Model.out
  pointwise [hy, zf_apply a2 a3 a4 a5 a6 a7 a8 a9 a10]
  rfl

theorem R137 (s : State Ideal) : R_main_v137 s a0 a2 a4 a10 = outE a2 a4 a10 s.main_v109_11 a0 := rfl
theorem R163 (s : State Ideal) : R_main_v163 s a1 a2 a4 a10 = outE a2 a4 a10 s.main_v109_12 a1 := rfl

/-- The weights of core `c`, from its argument arrays. -/
def wtsAt (m : (ℓ : Loc nD τ sig) → Buf (Elt Ideal) ℓ) (c : Dev nD) : Model.Weights :=
  wts (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The run: the two results, and the arguments unchanged. -/
theorem run_mix (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137) = mixR (wtsAt m c) (m ((c.tc : Thread nD τ).loc main_arg0))
      ∧ r.2.mem ((c.tc : Thread nD τ).loc main_v163) = mixR (wtsAt m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    have I := inv_it (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) 4096 le_rfl
    ⟨(h c).1.trans ((R137 (m ((c.tc : Thread nD τ).loc main_arg0)) (m ((c.tc : Thread nD τ).loc main_arg2)) (m ((c.tc : Thread nD τ).loc main_arg4)) (m ((c.tc : Thread nD τ).loc main_arg10)) _).trans (outE_apply (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _ _ fun t b d => I.y0 t b d t.isLt)),
     (h c).2.1.trans ((R163 (m ((c.tc : Thread nD τ).loc main_arg1)) (m ((c.tc : Thread nD τ).loc main_arg2)) (m ((c.tc : Thread nD τ).loc main_arg4)) (m ((c.tc : Thread nD τ).loc main_arg10)) _).trans (outE_apply (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _ _ fun t b d => I.y1 t b d t.isLt)),
     (h c).2.2⟩)
    (StepRun.run_iter m ρ (fun c => it (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      (fun _ => rfl) (fun _ _ => rfl))

end Cert.ReferenceIdeal.Value

end
-- ==== Proof.lean ====
module

public import proofs.«01_k».proof.Defs
public import proofs.«01_k».proof.Proof.Precondition
public import proofs.«01_k».proof.Proof.KernelIdealResult
public import proofs.«01_k».proof.Proof.RefValue
public import proofs.«01_k».proof.Proof.KernelFrame
public import proofs.«01_k».proof.Proof.KernelIdealFrame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel Cert.Pre_moderate

theorem frame_kernel : Cert.quiescent_Kernel (hKernel := Cert.Kernel.Gen.facts) := fun m ρ _ => Cert.Kernel.Gen.frame m ρ

theorem frame_kernel_ideal : Cert.quiescent_KernelIdeal (hKernelIdeal := Cert.KernelIdeal.Gen.facts) :=
  fun m ρ _ => Cert.KernelIdeal.Gen.frame m ρ

theorem frame_reference : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the eight tests the two models give the same outputs, of one argument. -/
theorem mix_eq (a2 : FVec Ideal Cert.Pre_moderate.S256x256 .f32) (a3 a4 : FVec Ideal Cert.Pre_moderate.S128x1x3 .f32)
    (a5 : FVec Ideal Cert.Pre_moderate.S48x128 .f32) (a6 : FVec Ideal Cert.Pre_moderate.S128x16 .f32) (a7 : FVec Ideal Cert.Pre_moderate.S128 .f32)
    (a8 : FVec Ideal Cert.Pre_moderate.S128x16 .f32) (a9 : FVec Ideal Cert.Pre_moderate.S128 .f32) (a10 a : _)
    (ha : Reading.finE Cert.Pre_moderate.Facts.bcast_S_S4x4096x256 a = fun _ => 1#1)
    (h2 : Reading.finE Cert.Pre_moderate.Facts.bcast_S_S128x256 (Reading.rowsW a2) = fun _ => 1#1)
    (h3 : Reading.finE Cert.Pre_moderate.Facts.bcast_S_S128x1x3 a3 = fun _ => 1#1)
    (h5 : Reading.finE Cert.Pre_moderate.Facts.bcast_S_S16x128 (Reading.rowsXp a5) = fun _ => 1#1)
    (h6 : Reading.finE Cert.Pre_moderate.Facts.bcast_S_S128x16 a6 = fun _ => 1#1)
    (hs : Reading.smallE a2 a3 a5 a6 a7 a = fun _ => 1#1) :
    Cert.KernelIdeal.Scan.mixK (Cert.ReferenceIdeal.Value.wts a2 a3 a4 a5 a6 a7 a8 a9 a10) a
      = Cert.ReferenceIdeal.Value.mixR (Cert.ReferenceIdeal.Value.wts a2 a3 a4 a5 a6 a7 a8 a9 a10) a :=
  funext fun y => congrFun (congrFun (Model.out_eq (Cert.ReferenceIdeal.Value.wts a2 a3 a4 a5 a6 a7 a8 a9 a10) (Cert.ReferenceIdeal.Value.seq a (y 0))
    (fun t k => Reading.fin_of_finE ha (ix3 (y 0) t k)) (Reading.fin_rowsW a2 h2) (fun d j => Reading.fin_of_finE h3 (ix3 d 0 j))
    (Reading.fin_rowsXp a5 h5) (fun d j => Reading.fin_of_finE h6 (ix2 d j))
    (Reading.le_of_smallE a2 a3 a4 a5 a6 a7 a8 a9 a10 hs (y 0))) (y 1)) (y 2)

/-- The kernel and the reference end with equal results. -/
theorem algebraic : Cert.algebraic_KernelIdeal_ReferenceIdeal_pre_moderate (hKernelIdeal := Cert.KernelIdeal.Gen.facts)
    (hReferenceIdeal := Cert.ReferenceIdeal.Gen.facts) (hPre_moderate := Cert.Pre_moderate.Gen.facts) := fun m g m' g' hp hm => by
  refine ⟨fun c => Cert.KernelIdeal.Scan.mixK (Cert.KernelIdeal.Scan.wts m c) (m ((c.tc : Thread Cert.KernelIdeal.nD Cert.KernelIdeal.τ).loc Cert.KernelIdeal.main_arg0)),
    fun c => Cert.KernelIdeal.Scan.mixK (Cert.KernelIdeal.Scan.wts m c) (m ((c.tc : Thread Cert.KernelIdeal.nD Cert.KernelIdeal.τ).loc Cert.KernelIdeal.main_arg1)), ?_, ?_⟩
  · exact (θ_run Cert.KernelIdeal.defs _ _).mono (fun r h c => ⟨(h.1 c).1, (h.1 c).2, h.2 c⟩)
      (θ_run_and (Cert.KernelIdeal.Scan.run_results m g) (Cert.KernelIdeal.Gen.unchanged m g))
  · refine (θ_run Cert.ReferenceIdeal.defs _ _).mono (fun r h c => ⟨(h c).1.trans ?_, (h c).2.1.trans ?_, (h c).2.2⟩) (Cert.ReferenceIdeal.Value.run_mix m' g')
    all_goals
      obtain ⟨e0, e1, e2, e3, e4, e5, e6, e7, e8, e9, e10⟩ := hm c
      have hc := hp c
      rw [Reading.fn_eq] at hc
      obtain ⟨t0, t1, t2, t3, t5, t6, s0, s1⟩ := hc
      unfold Cert.ReferenceIdeal.Value.wtsAt
    · rw [e0, e2, e3, e4, e5, e6, e7, e8, e9, e10]
      exact (mix_eq _ _ _ _ _ _ _ _ _ _ t0 t2 t3 t5 t6 s0).symm
    · rw [e1, e2, e3, e4, e5, e6, e7, e8, e9, e10]
      exact (mix_eq _ _ _ _ _ _ _ _ _ _ t1 t2 t3 t5 t6 s1).symm

theorem claim : Cert.Claim := ⟨Cert.Kernel.Gen.facts, Cert.KernelIdeal.Gen.facts, Cert.ReferenceIdeal.Gen.facts, Cert.Pre_moderate.Gen.facts,
  frame_kernel, frame_kernel_ideal, fun m ρ _ => Cert.KernelIdeal.Gen.frame m ρ, frame_reference,
  fun m ρ _ => frame_reference m ρ trivial, trivial, algebraic⟩

end Cert.Proof

end
